-- ==== Defs.lean ====
def Pre_ProjA (m : (ℓ : Loc Cert.ProjA.nD Cert.ProjA.τ Cert.ProjA.sig) → Buf (Elt Bits) ℓ) : Prop :=
  True

def Pre_ProjAIdeal (m : (ℓ : Loc Cert.ProjAIdeal.nD Cert.ProjAIdeal.τ Cert.ProjAIdeal.sig) → Buf (Elt Ideal) ℓ) : Prop :=
  True

def Pre_ProjARefIdeal (m : (ℓ : Loc Cert.ProjARefIdeal.nD Cert.ProjARefIdeal.τ Cert.ProjARefIdeal.sig) → Buf (Elt Ideal) ℓ) : Prop :=
  True

def Pre_ProjC (m : (ℓ : Loc Cert.ProjC.nD Cert.ProjC.τ Cert.ProjC.sig) → Buf (Elt Bits) ℓ) : Prop :=
  True

def Pre_ProjCIdeal (m : (ℓ : Loc Cert.ProjCIdeal.nD Cert.ProjCIdeal.τ Cert.ProjCIdeal.sig) → Buf (Elt Ideal) ℓ) : Prop :=
  True

def Pre_ProjCRefIdeal (m : (ℓ : Loc Cert.ProjCRefIdeal.nD Cert.ProjCRefIdeal.τ Cert.ProjCRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_FfnFinal (m : (ℓ : Loc Cert.FfnFinal.nD Cert.FfnFinal.τ Cert.FfnFinal.sig) → Buf (Elt Bits) ℓ) : Prop :=
  True

def Pre_FfnFinalIdeal (m : (ℓ : Loc Cert.FfnFinalIdeal.nD Cert.FfnFinalIdeal.τ Cert.FfnFinalIdeal.sig) → Buf (Elt Ideal) ℓ) : Prop :=
  True

def Pre_FfnFinalRefIdeal (m : (ℓ : Loc Cert.FfnFinalRefIdeal.nD Cert.FfnFinalRefIdeal.τ Cert.FfnFinalRefIdeal.sig) → Buf (Elt Ideal) ℓ) : Prop :=
  True

def Pre_FfnFinalS (m : (ℓ : Loc Cert.FfnFinalS.nD Cert.FfnFinalS.τ Cert.FfnFinalS.sig) → Buf (Elt Bits) ℓ) : Prop :=
  True

def Pre_FfnFinalSIdeal (m : (ℓ : Loc Cert.FfnFinalSIdeal.nD Cert.FfnFinalSIdeal.τ Cert.FfnFinalSIdeal.sig) → Buf (Elt Ideal) ℓ) : Prop :=
  True

def Pre_FfnFinalSRefIdeal (m : (ℓ : Loc Cert.FfnFinalSRefIdeal.nD Cert.FfnFinalSRefIdeal.τ Cert.FfnFinalSRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeIdeal_finite_lse [hPre_finite_lse : Cert.Pre_finite_lse.Facts] (m : (ℓ : Loc Cert.MergeIdeal.nD Cert.MergeIdeal.τ Cert.MergeIdeal.sig) → Buf (Elt Ideal) ℓ) : Prop :=
  ∀ c : Dev Cert.MergeIdeal.nD,
    (Cert.Pre_finite_lse.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9)) (m ((c.tc : Thread Cert.MergeIdeal.nD Cert.MergeIdeal.τ).loc Cert.MergeIdeal.main_arg10))) = (fun _ => 1#1)

def Pre_MergeRefIdeal (m : (ℓ : Loc Cert.MergeRefIdeal.nD Cert.MergeRefIdeal.τ Cert.MergeRefIdeal.sig) → Buf (Elt Ideal) ℓ) : Prop :=
  True

def Pre_MergeRefIdeal_finite_lse [hPre_finite_lse : Cert.Pre_finite_lse.Facts] (m : (ℓ : Loc Cert.MergeRefIdeal.nD Cert.MergeRefIdeal.τ Cert.MergeRefIdeal.sig) → Buf (Elt Ideal) ℓ) : Prop :=
  ∀ c : Dev Cert.MergeRefIdeal.nD,
    (Cert.Pre_finite_lse.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6)) (m ((c.tc : Thread Cert.MergeRefIdeal.nD Cert.MergeRefIdeal.τ).loc Cert.MergeRefIdeal.main_arg7)) (m ((c.tc : Thread Cert.MergeRefIdeal.nD Cert.MergeRefIdeal.τ).loc Cert.MergeRefIdeal.main_arg8)) (m ((c.tc : Thread Cert.MergeRefIdeal.nD Cert.MergeRefIdeal.τ).loc Cert.MergeRefIdeal.main_arg9)) (m ((c.tc : Thread Cert.MergeRefIdeal.nD Cert.MergeRefIdeal.τ).loc Cert.MergeRefIdeal.main_arg10))) = (fun _ => 1#1)

def quiescent_ProjA [hProjA : Cert.ProjA.Facts] : Prop :=
  ∀ (m : (ℓ : Loc Cert.ProjA.nD Cert.ProjA.τ Cert.ProjA.sig) → Buf (Elt Bits) ℓ) (g : Dev Cert.ProjA.nD → PrngReg), Pre_ProjA m →
    θ_run (Cert.ProjA.defs (F := Bits)) (onTc (τ := Cert.ProjA.τ) (Cert.ProjA.main (F := Bits))) ⟨m, fun _ => 0, g⟩ (fun r => (∀ c : Dev Cert.ProjA.nD,
      r.2.mem ((c.tc : Thread Cert.ProjA.nD Cert.ProjA.τ).loc Cert.ProjA.main_arg0) = m ((c.tc : Thread Cert.ProjA.nD Cert.ProjA.τ).loc Cert.ProjA.main_arg0)
      ∧ r.2.mem ((c.tc : Thread Cert.ProjA.nD Cert.ProjA.τ).loc Cert.ProjA.main_arg1) = m ((c.tc : Thread Cert.ProjA.nD Cert.ProjA.τ).loc Cert.ProjA.main_arg1)
      ∧ r.2.mem ((c.tc : Thread Cert.ProjA.nD Cert.ProjA.τ).loc Cert.ProjA.main_arg2) = m ((c.tc : Thread Cert.ProjA.nD Cert.ProjA.τ).loc Cert.ProjA.main_arg2)
      ∧ r.2.mem ((c.tc : Thread Cert.ProjA.nD Cert.ProjA.τ).loc Cert.ProjA.main_arg3) = m ((c.tc : Thread Cert.ProjA.nD Cert.ProjA.τ).loc Cert.ProjA.main_arg3)
      ∧ r.2.mem ((c.tc : Thread Cert.ProjA.nD Cert.ProjA.τ).loc Cert.ProjA.main_arg4) = m ((c.tc : Thread Cert.ProjA.nD Cert.ProjA.τ).loc Cert.ProjA.main_arg4))
      ∧ r.2.sem = fun _ => 0)

def quiescent_ProjAIdeal [hProjAIdeal : Cert.ProjAIdeal.Facts] : Prop :=
  ∀ (m : (ℓ : Loc Cert.ProjAIdeal.nD Cert.ProjAIdeal.τ Cert.ProjAIdeal.sig) → Buf (Elt Ideal) ℓ) (g : Dev Cert.ProjAIdeal.nD → PrngReg), Pre_ProjAIdeal m →
    θ_run (Cert.ProjAIdeal.defs (F := Ideal)) (onTc (τ := Cert.ProjAIdeal.τ) (Cert.ProjAIdeal.main (F := Ideal))) ⟨m, fun _ => 0, g⟩ (fun r => (∀ c : Dev Cert.ProjAIdeal.nD,
      r.2.mem ((c.tc : Thread Cert.ProjAIdeal.nD Cert.ProjAIdeal.τ).loc Cert.ProjAIdeal.main_arg0) = m ((c.tc : Thread Cert.ProjAIdeal.nD Cert.ProjAIdeal.τ).loc Cert.ProjAIdeal.main_arg0)
      ∧ r.2.mem ((c.tc : Thread Cert.ProjAIdeal.nD Cert.ProjAIdeal.τ).loc Cert.ProjAIdeal.main_arg1) = m ((c.tc : Thread Cert.ProjAIdeal.nD Cert.ProjAIdeal.τ).loc Cert.ProjAIdeal.main_arg1)
      ∧ r.2.mem ((c.tc : Thread Cert.ProjAIdeal.nD Cert.ProjAIdeal.τ).loc Cert.ProjAIdeal.main_arg2) = m ((c.tc : Thread Cert.ProjAIdeal.nD Cert.ProjAIdeal.τ).loc Cert.ProjAIdeal.main_arg2)
      ∧ r.2.mem ((c.tc : Thread Cert.ProjAIdeal.nD Cert.ProjAIdeal.τ).loc Cert.ProjAIdeal.main_arg3) = m ((c.tc : Thread Cert.ProjAIdeal.nD Cert.ProjAIdeal.τ).loc Cert.ProjAIdeal.main_arg3)
      ∧ r.2.mem ((c.tc : Thread Cert.ProjAIdeal.nD Cert.ProjAIdeal.τ).loc Cert.ProjAIdeal.main_arg4) = m ((c.tc : Thread Cert.ProjAIdeal.nD Cert.ProjAIdeal.τ).loc Cert.ProjAIdeal.main_arg4))
      ∧ r.2.sem = fun _ => 0)

def quiescent_ProjARefIdeal [hProjARefIdeal : Cert.ProjARefIdeal.Facts] : Prop :=
  ∀ (m : (ℓ : Loc Cert.ProjARefIdeal.nD Cert.ProjARefIdeal.τ Cert.ProjARefIdeal.sig) → Buf (Elt Ideal) ℓ) (g : Dev Cert.ProjARefIdeal.nD → PrngReg), Pre_ProjARefIdeal m →
    θ_run (Cert.ProjARefIdeal.defs (F := Ideal)) (onTc (τ := Cert.ProjARefIdeal.τ) (Cert.ProjARefIdeal.main (F := Ideal))) ⟨m, fun _ => 0, g⟩ (fun r => (∀ c : Dev Cert.ProjARefIdeal.nD,
      r.2.mem ((c.tc : Thread Cert.ProjARefIdeal.nD Cert.ProjARefIdeal.τ).loc Cert.ProjARefIdeal.main_arg0) = m ((c.tc : Thread Cert.ProjARefIdeal.nD Cert.ProjARefIdeal.τ).loc Cert.ProjARefIdeal.main_arg0)
      ∧ r.2.mem ((c.tc : Thread Cert.ProjARefIdeal.nD Cert.ProjARefIdeal.τ).loc Cert.ProjARefIdeal.main_arg1) = m ((c.tc : Thread Cert.ProjARefIdeal.nD Cert.ProjARefIdeal.τ).loc Cert.ProjARefIdeal.main_arg1)
      ∧ r.2.mem ((c.tc : Thread Cert.ProjARefIdeal.nD Cert.ProjARefIdeal.τ).loc Cert.ProjARefIdeal.main_arg2) = m ((c.tc : Thread Cert.ProjARefIdeal.nD Cert.ProjARefIdeal.τ).loc Cert.ProjARefIdeal.main_arg2)
      ∧ r.2.mem ((c.tc : Thread Cert.ProjARefIdeal.nD Cert.ProjARefIdeal.τ).loc Cert.ProjARefIdeal.main_arg3) = m ((c.tc : Thread Cert.ProjARefIdeal.nD Cert.ProjARefIdeal.τ).loc Cert.ProjARefIdeal.main_arg3)
      ∧ r.2.mem ((c.tc : Thread Cert.ProjARefIdeal.nD Cert.ProjARefIdeal.τ).loc Cert.ProjARefIdeal.main_arg4) = m ((c.tc : Thread Cert.ProjARefIdeal.nD Cert.ProjARefIdeal.τ).loc Cert.ProjARefIdeal.main_arg4))
      ∧ r.2.sem = fun _ => 0)

def quiescent_ProjC [hProjC : Cert.ProjC.Facts] : Prop :=
  ∀ (m : (ℓ : Loc Cert.ProjC.nD Cert.ProjC.τ Cert.ProjC.sig) → Buf (Elt Bits) ℓ) (g : Dev Cert.ProjC.nD → PrngReg), Pre_ProjC m →
    θ_run (Cert.ProjC.defs (F := Bits)) (onTc (τ := Cert.ProjC.τ) (Cert.ProjC.main (F := Bits))) ⟨m, fun _ => 0, g⟩ (fun r => (∀ c : Dev Cert.ProjC.nD,
      r.2.mem ((c.tc : Thread Cert.ProjC.nD Cert.ProjC.τ).loc Cert.ProjC.main_arg0) = m ((c.tc : Thread Cert.ProjC.nD Cert.ProjC.τ).loc Cert.ProjC.main_arg0)
      ∧ r.2.mem ((c.tc : Thread Cert.ProjC.nD Cert.ProjC.τ).loc Cert.ProjC.main_arg1) = m ((c.tc : Thread Cert.ProjC.nD Cert.ProjC.τ).loc Cert.ProjC.main_arg1)
      ∧ r.2.mem ((c.tc : Thread Cert.ProjC.nD Cert.ProjC.τ).loc Cert.ProjC.main_arg2) = m ((c.tc : Thread Cert.ProjC.nD Cert.ProjC.τ).loc Cert.ProjC.main_arg2)
      ∧ r.2.mem ((c.tc : Thread Cert.ProjC.nD Cert.ProjC.τ).loc Cert.ProjC.main_arg3) = m ((c.tc : Thread Cert.ProjC.nD Cert.ProjC.τ).loc Cert.ProjC.main_arg3)
      ∧ r.2.mem ((c.tc : Thread Cert.ProjC.nD Cert.ProjC.τ).loc Cert.ProjC.main_arg4) = m ((c.tc : Thread Cert.ProjC.nD Cert.ProjC.τ).loc Cert.ProjC.main_arg4))
      ∧ r.2.sem = fun _ => 0)

def quiescent_ProjCIdeal [hProjCIdeal : Cert.ProjCIdeal.Facts] : Prop :=
  ∀ (m : (ℓ : Loc Cert.ProjCIdeal.nD Cert.ProjCIdeal.τ Cert.ProjCIdeal.sig) → Buf (Elt Ideal) ℓ) (g : Dev Cert.ProjCIdeal.nD → PrngReg), Pre_ProjCIdeal m →
    θ_run (Cert.ProjCIdeal.defs (F := Ideal)) (onTc (τ := Cert.ProjCIdeal.τ) (Cert.ProjCIdeal.main (F := Ideal))) ⟨m, fun _ => 0, g⟩ (fun r => (∀ c : Dev Cert.ProjCIdeal.nD,
      r.2.mem ((c.tc : Thread Cert.ProjCIdeal.nD Cert.ProjCIdeal.τ).loc Cert.ProjCIdeal.main_arg0) = m ((c.tc : Thread Cert.ProjCIdeal.nD Cert.ProjCIdeal.τ).loc Cert.ProjCIdeal.main_arg0)
      ∧ r.2.mem ((c.tc : Thread Cert.ProjCIdeal.nD Cert.ProjCIdeal.τ).loc Cert.ProjCIdeal.main_arg1) = m ((c.tc : Thread Cert.ProjCIdeal.nD Cert.ProjCIdeal.τ).loc Cert.ProjCIdeal.main_arg1)
      ∧ r.2.mem ((c.tc : Thread Cert.ProjCIdeal.nD Cert.ProjCIdeal.τ).loc Cert.ProjCIdeal.main_arg2) = m ((c.tc : Thread Cert.ProjCIdeal.nD Cert.ProjCIdeal.τ).loc Cert.ProjCIdeal.main_arg2)
      ∧ r.2.mem ((c.tc : Thread Cert.ProjCIdeal.nD Cert.ProjCIdeal.τ).loc Cert.ProjCIdeal.main_arg3) = m ((c.tc : Thread Cert.ProjCIdeal.nD Cert.ProjCIdeal.τ).loc Cert.ProjCIdeal.main_arg3)
      ∧ r.2.mem ((c.tc : Thread Cert.ProjCIdeal.nD Cert.ProjCIdeal.τ).loc Cert.ProjCIdeal.main_arg4) = m ((c.tc : Thread Cert.ProjCIdeal.nD Cert.ProjCIdeal.τ).loc Cert.ProjCIdeal.main_arg4))
      ∧ r.2.sem = fun _ => 0)

def quiescent_ProjCRefIdeal [hProjCRefIdeal : Cert.ProjCRefIdeal.Facts] : Prop :=
  ∀ (m : (ℓ : Loc Cert.ProjCRefIdeal.nD Cert.ProjCRefIdeal.τ Cert.ProjCRefIdeal.sig) → Buf (Elt Ideal) ℓ) (g : Dev Cert.ProjCRefIdeal.nD → PrngReg), Pre_ProjCRefIdeal m →
    θ_run (Cert.ProjCRefIdeal.defs (F := Ideal)) (onTc (τ := Cert.ProjCRefIdeal.τ) (Cert.ProjCRefIdeal.main (F := Ideal))) ⟨m, fun _ => 0, g⟩ (fun r => (∀ c : Dev Cert.ProjCRefIdeal.nD,
      r.2.mem ((c.tc : Thread Cert.ProjCRefIdeal.nD Cert.ProjCRefIdeal.τ).loc Cert.ProjCRefIdeal.main_arg0) = m ((c.tc : Thread Cert.ProjCRefIdeal.nD Cert.ProjCRefIdeal.τ).loc Cert.ProjCRefIdeal.main_arg0)
      ∧ r.2.mem ((c.tc : Thread Cert.ProjCRefIdeal.nD Cert.ProjCRefIdeal.τ).loc Cert.ProjCRefIdeal.main_arg1) = m ((c.tc : Thread Cert.ProjCRefIdeal.nD Cert.ProjCRefIdeal.τ).loc Cert.ProjCRefIdeal.main_arg1)
      ∧ r.2.mem ((c.tc : Thread Cert.ProjCRefIdeal.nD Cert.ProjCRefIdeal.τ).loc Cert.ProjCRefIdeal.main_arg2) = m ((c.tc : Thread Cert.ProjCRefIdeal.nD Cert.ProjCRefIdeal.τ).loc Cert.ProjCRefIdeal.main_arg2)
      ∧ r.2.mem ((c.tc : Thread Cert.ProjCRefIdeal.nD Cert.ProjCRefIdeal.τ).loc Cert.ProjCRefIdeal.main_arg3) = m ((c.tc : Thread Cert.ProjCRefIdeal.nD Cert.ProjCRefIdeal.τ).loc Cert.ProjCRefIdeal.main_arg3)
      ∧ r.2.mem ((c.tc : Thread Cert.ProjCRefIdeal.nD Cert.ProjCRefIdeal.τ).loc Cert.ProjCRefIdeal.main_arg4) = m ((c.tc : Thread Cert.ProjCRefIdeal.nD Cert.ProjCRefIdeal.τ).loc Cert.ProjCRefIdeal.main_arg4))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_FfnFinal [hFfnFinal : Cert.FfnFinal.Facts] : Prop :=
  ∀ (m : (ℓ : Loc Cert.FfnFinal.nD Cert.FfnFinal.τ Cert.FfnFinal.sig) → Buf (Elt Bits) ℓ) (g : Dev Cert.FfnFinal.nD → PrngReg), Pre_FfnFinal m →
    θ_run (Cert.FfnFinal.defs (F := Bits)) (onTc (τ := Cert.FfnFinal.τ) (Cert.FfnFinal.main (F := Bits))) ⟨m, fun _ => 0, g⟩ (fun r => (∀ c : Dev Cert.FfnFinal.nD,
      r.2.mem ((c.tc : Thread Cert.FfnFinal.nD Cert.FfnFinal.τ).loc Cert.FfnFinal.main_arg0) = m ((c.tc : Thread Cert.FfnFinal.nD Cert.FfnFinal.τ).loc Cert.FfnFinal.main_arg0)
      ∧ r.2.mem ((c.tc : Thread Cert.FfnFinal.nD Cert.FfnFinal.τ).loc Cert.FfnFinal.main_arg1) = m ((c.tc : Thread Cert.FfnFinal.nD Cert.FfnFinal.τ).loc Cert.FfnFinal.main_arg1)
      ∧ r.2.mem ((c.tc : Thread Cert.FfnFinal.nD Cert.FfnFinal.τ).loc Cert.FfnFinal.main_arg2) = m ((c.tc : Thread Cert.FfnFinal.nD Cert.FfnFinal.τ).loc Cert.FfnFinal.main_arg2)
      ∧ r.2.mem ((c.tc : Thread Cert.FfnFinal.nD Cert.FfnFinal.τ).loc Cert.FfnFinal.main_arg3) = m ((c.tc : Thread Cert.FfnFinal.nD Cert.FfnFinal.τ).loc Cert.FfnFinal.main_arg3)
      ∧ r.2.mem ((c.tc : Thread Cert.FfnFinal.nD Cert.FfnFinal.τ).loc Cert.FfnFinal.main_arg4) = m ((c.tc : Thread Cert.FfnFinal.nD Cert.FfnFinal.τ).loc Cert.FfnFinal.main_arg4)
      ∧ r.2.mem ((c.tc : Thread Cert.FfnFinal.nD Cert.FfnFinal.τ).loc Cert.FfnFinal.main_arg5) = m ((c.tc : Thread Cert.FfnFinal.nD Cert.FfnFinal.τ).loc Cert.FfnFinal.main_arg5))
      ∧ r.2.sem = fun _ => 0)

def quiescent_FfnFinalIdeal [hFfnFinalIdeal : Cert.FfnFinalIdeal.Facts] : Prop :=
  ∀ (m : (ℓ : Loc Cert.FfnFinalIdeal.nD Cert.FfnFinalIdeal.τ Cert.FfnFinalIdeal.sig) → Buf (Elt Ideal) ℓ) (g : Dev Cert.FfnFinalIdeal.nD → PrngReg), Pre_FfnFinalIdeal m →
    θ_run (Cert.FfnFinalIdeal.defs (F := Ideal)) (onTc (τ := Cert.FfnFinalIdeal.τ) (Cert.FfnFinalIdeal.main (F := Ideal))) ⟨m, fun _ => 0, g⟩ (fun r => (∀ c : Dev Cert.FfnFinalIdeal.nD,
      r.2.mem ((c.tc : Thread Cert.FfnFinalIdeal.nD Cert.FfnFinalIdeal.τ).loc Cert.FfnFinalIdeal.main_arg0) = m ((c.tc : Thread Cert.FfnFinalIdeal.nD Cert.FfnFinalIdeal.τ).loc Cert.FfnFinalIdeal.main_arg0)
      ∧ r.2.mem ((c.tc : Thread Cert.FfnFinalIdeal.nD Cert.FfnFinalIdeal.τ).loc Cert.FfnFinalIdeal.main_arg1) = m ((c.tc : Thread Cert.FfnFinalIdeal.nD Cert.FfnFinalIdeal.τ).loc Cert.FfnFinalIdeal.main_arg1)
      ∧ r.2.mem ((c.tc : Thread Cert.FfnFinalIdeal.nD Cert.FfnFinalIdeal.τ).loc Cert.FfnFinalIdeal.main_arg2) = m ((c.tc : Thread Cert.FfnFinalIdeal.nD Cert.FfnFinalIdeal.τ).loc Cert.FfnFinalIdeal.main_arg2)
      ∧ r.2.mem ((c.tc : Thread Cert.FfnFinalIdeal.nD Cert.FfnFinalIdeal.τ).loc Cert.FfnFinalIdeal.main_arg3) = m ((c.tc : Thread Cert.FfnFinalIdeal.nD Cert.FfnFinalIdeal.τ).loc Cert.FfnFinalIdeal.main_arg3)
      ∧ r.2.mem ((c.tc : Thread Cert.FfnFinalIdeal.nD Cert.FfnFinalIdeal.τ).loc Cert.FfnFinalIdeal.main_arg4) = m ((c.tc : Thread Cert.FfnFinalIdeal.nD Cert.FfnFinalIdeal.τ).loc Cert.FfnFinalIdeal.main_arg4)
      ∧ r.2.mem ((c.tc : Thread Cert.FfnFinalIdeal.nD Cert.FfnFinalIdeal.τ).loc Cert.FfnFinalIdeal.main_arg5) = m ((c.tc : Thread Cert.FfnFinalIdeal.nD Cert.FfnFinalIdeal.τ).loc Cert.FfnFinalIdeal.main_arg5))
      ∧ r.2.sem = fun _ => 0)

def quiescent_FfnFinalRefIdeal [hFfnFinalRefIdeal : Cert.FfnFinalRefIdeal.Facts] : Prop :=
  ∀ (m : (ℓ : Loc Cert.FfnFinalRefIdeal.nD Cert.FfnFinalRefIdeal.τ Cert.FfnFinalRefIdeal.sig) → Buf (Elt Ideal) ℓ) (g : Dev Cert.FfnFinalRefIdeal.nD → PrngReg), Pre_FfnFinalRefIdeal m →
    θ_run (Cert.FfnFinalRefIdeal.defs (F := Ideal)) (onTc (τ := Cert.FfnFinalRefIdeal.τ) (Cert.FfnFinalRefIdeal.main (F := Ideal))) ⟨m, fun _ => 0, g⟩ (fun r => (∀ c : Dev Cert.FfnFinalRefIdeal.nD,
      r.2.mem ((c.tc : Thread Cert.FfnFinalRefIdeal.nD Cert.FfnFinalRefIdeal.τ).loc Cert.FfnFinalRefIdeal.main_arg0) = m ((c.tc : Thread Cert.FfnFinalRefIdeal.nD Cert.FfnFinalRefIdeal.τ).loc Cert.FfnFinalRefIdeal.main_arg0)
      ∧ r.2.mem ((c.tc : Thread Cert.FfnFinalRefIdeal.nD Cert.FfnFinalRefIdeal.τ).loc Cert.FfnFinalRefIdeal.main_arg1) = m ((c.tc : Thread Cert.FfnFinalRefIdeal.nD Cert.FfnFinalRefIdeal.τ).loc Cert.FfnFinalRefIdeal.main_arg1)
      ∧ r.2.mem ((c.tc : Thread Cert.FfnFinalRefIdeal.nD Cert.FfnFinalRefIdeal.τ).loc Cert.FfnFinalRefIdeal.main_arg2) = m ((c.tc : Thread Cert.FfnFinalRefIdeal.nD Cert.FfnFinalRefIdeal.τ).loc Cert.FfnFinalRefIdeal.main_arg2)
      ∧ r.2.mem ((c.tc : Thread Cert.FfnFinalRefIdeal.nD Cert.FfnFinalRefIdeal.τ).loc Cert.FfnFinalRefIdeal.main_arg3) = m ((c.tc : Thread Cert.FfnFinalRefIdeal.nD Cert.FfnFinalRefIdeal.τ).loc Cert.FfnFinalRefIdeal.main_arg3)
      ∧ r.2.mem ((c.tc : Thread Cert.FfnFinalRefIdeal.nD Cert.FfnFinalRefIdeal.τ).loc Cert.FfnFinalRefIdeal.main_arg4) = m ((c.tc : Thread Cert.FfnFinalRefIdeal.nD Cert.FfnFinalRefIdeal.τ).loc Cert.FfnFinalRefIdeal.main_arg4)
      ∧ r.2.mem ((c.tc : Thread Cert.FfnFinalRefIdeal.nD Cert.FfnFinalRefIdeal.τ).loc Cert.FfnFinalRefIdeal.main_arg5) = m ((c.tc : Thread Cert.FfnFinalRefIdeal.nD Cert.FfnFinalRefIdeal.τ).loc Cert.FfnFinalRefIdeal.main_arg5))
      ∧ r.2.sem = fun _ => 0)

def quiescent_FfnFinalS [hFfnFinalS : Cert.FfnFinalS.Facts] : Prop :=
  ∀ (m : (ℓ : Loc Cert.FfnFinalS.nD Cert.FfnFinalS.τ Cert.FfnFinalS.sig) → Buf (Elt Bits) ℓ) (g : Dev Cert.FfnFinalS.nD → PrngReg), Pre_FfnFinalS m →
    θ_run (Cert.FfnFinalS.defs (F := Bits)) (onTc (τ := Cert.FfnFinalS.τ) (Cert.FfnFinalS.main (F := Bits))) ⟨m, fun _ => 0, g⟩ (fun r => (∀ c : Dev Cert.FfnFinalS.nD,
      r.2.mem ((c.tc : Thread Cert.FfnFinalS.nD Cert.FfnFinalS.τ).loc Cert.FfnFinalS.main_arg0) = m ((c.tc : Thread Cert.FfnFinalS.nD Cert.FfnFinalS.τ).loc Cert.FfnFinalS.main_arg0)
      ∧ r.2.mem ((c.tc : Thread Cert.FfnFinalS.nD Cert.FfnFinalS.τ).loc Cert.FfnFinalS.main_arg1) = m ((c.tc : Thread Cert.FfnFinalS.nD Cert.FfnFinalS.τ).loc Cert.FfnFinalS.main_arg1)
      ∧ r.2.mem ((c.tc : Thread Cert.FfnFinalS.nD Cert.FfnFinalS.τ).loc Cert.FfnFinalS.main_arg2) = m ((c.tc : Thread Cert.FfnFinalS.nD Cert.FfnFinalS.τ).loc Cert.FfnFinalS.main_arg2)
      ∧ r.2.mem ((c.tc : Thread Cert.FfnFinalS.nD Cert.FfnFinalS.τ).loc Cert.FfnFinalS.main_arg3) = m ((c.tc : Thread Cert.FfnFinalS.nD Cert.FfnFinalS.τ).loc Cert.FfnFinalS.main_arg3)
      ∧ r.2.mem ((c.tc : Thread Cert.FfnFinalS.nD Cert.FfnFinalS.τ).loc Cert.FfnFinalS.main_arg4) = m ((c.tc : Thread Cert.FfnFinalS.nD Cert.FfnFinalS.τ).loc Cert.FfnFinalS.main_arg4)
      ∧ r.2.mem ((c.tc : Thread Cert.FfnFinalS.nD Cert.FfnFinalS.τ).loc Cert.FfnFinalS.main_arg5) = m ((c.tc : Thread Cert.FfnFinalS.nD Cert.FfnFinalS.τ).loc Cert.FfnFinalS.main_arg5))
      ∧ r.2.sem = fun _ => 0)

def quiescent_FfnFinalSIdeal [hFfnFinalSIdeal : Cert.FfnFinalSIdeal.Facts] : Prop :=
  ∀ (m : (ℓ : Loc Cert.FfnFinalSIdeal.nD Cert.FfnFinalSIdeal.τ Cert.FfnFinalSIdeal.sig) → Buf (Elt Ideal) ℓ) (g : Dev Cert.FfnFinalSIdeal.nD → PrngReg), Pre_FfnFinalSIdeal m →
    θ_run (Cert.FfnFinalSIdeal.defs (F := Ideal)) (onTc (τ := Cert.FfnFinalSIdeal.τ) (Cert.FfnFinalSIdeal.main (F := Ideal))) ⟨m, fun _ => 0, g⟩ (fun r => (∀ c : Dev Cert.FfnFinalSIdeal.nD,
      r.2.mem ((c.tc : Thread Cert.FfnFinalSIdeal.nD Cert.FfnFinalSIdeal.τ).loc Cert.FfnFinalSIdeal.main_arg0) = m ((c.tc : Thread Cert.FfnFinalSIdeal.nD Cert.FfnFinalSIdeal.τ).loc Cert.FfnFinalSIdeal.main_arg0)
      ∧ r.2.mem ((c.tc : Thread Cert.FfnFinalSIdeal.nD Cert.FfnFinalSIdeal.τ).loc Cert.FfnFinalSIdeal.main_arg1) = m ((c.tc : Thread Cert.FfnFinalSIdeal.nD Cert.FfnFinalSIdeal.τ).loc Cert.FfnFinalSIdeal.main_arg1)
      ∧ r.2.mem ((c.tc : Thread Cert.FfnFinalSIdeal.nD Cert.FfnFinalSIdeal.τ).loc Cert.FfnFinalSIdeal.main_arg2) = m ((c.tc : Thread Cert.FfnFinalSIdeal.nD Cert.FfnFinalSIdeal.τ).loc Cert.FfnFinalSIdeal.main_arg2)
      ∧ r.2.mem ((c.tc : Thread Cert.FfnFinalSIdeal.nD Cert.FfnFinalSIdeal.τ).loc Cert.FfnFinalSIdeal.main_arg3) = m ((c.tc : Thread Cert.FfnFinalSIdeal.nD Cert.FfnFinalSIdeal.τ).loc Cert.FfnFinalSIdeal.main_arg3)
      ∧ r.2.mem ((c.tc : Thread Cert.FfnFinalSIdeal.nD Cert.FfnFinalSIdeal.τ).loc Cert.FfnFinalSIdeal.main_arg4) = m ((c.tc : Thread Cert.FfnFinalSIdeal.nD Cert.FfnFinalSIdeal.τ).loc Cert.FfnFinalSIdeal.main_arg4)
      ∧ r.2.mem ((c.tc : Thread Cert.FfnFinalSIdeal.nD Cert.FfnFinalSIdeal.τ).loc Cert.FfnFinalSIdeal.main_arg5) = m ((c.tc : Thread Cert.FfnFinalSIdeal.nD Cert.FfnFinalSIdeal.τ).loc Cert.FfnFinalSIdeal.main_arg5))
      ∧ r.2.sem = fun _ => 0)

def quiescent_FfnFinalSRefIdeal [hFfnFinalSRefIdeal : Cert.FfnFinalSRefIdeal.Facts] : Prop :=
  ∀ (m : (ℓ : Loc Cert.FfnFinalSRefIdeal.nD Cert.FfnFinalSRefIdeal.τ Cert.FfnFinalSRefIdeal.sig) → Buf (Elt Ideal) ℓ) (g : Dev Cert.FfnFinalSRefIdeal.nD → PrngReg), Pre_FfnFinalSRefIdeal m →
    θ_run (Cert.FfnFinalSRefIdeal.defs (F := Ideal)) (onTc (τ := Cert.FfnFinalSRefIdeal.τ) (Cert.FfnFinalSRefIdeal.main (F := Ideal))) ⟨m, fun _ => 0, g⟩ (fun r => (∀ c : Dev Cert.FfnFinalSRefIdeal.nD,
      r.2.mem ((c.tc : Thread Cert.FfnFinalSRefIdeal.nD Cert.FfnFinalSRefIdeal.τ).loc Cert.FfnFinalSRefIdeal.main_arg0) = m ((c.tc : Thread Cert.FfnFinalSRefIdeal.nD Cert.FfnFinalSRefIdeal.τ).loc Cert.FfnFinalSRefIdeal.main_arg0)
      ∧ r.2.mem ((c.tc : Thread Cert.FfnFinalSRefIdeal.nD Cert.FfnFinalSRefIdeal.τ).loc Cert.FfnFinalSRefIdeal.main_arg1) = m ((c.tc : Thread Cert.FfnFinalSRefIdeal.nD Cert.FfnFinalSRefIdeal.τ).loc Cert.FfnFinalSRefIdeal.main_arg1)
      ∧ r.2.mem ((c.tc : Thread Cert.FfnFinalSRefIdeal.nD Cert.FfnFinalSRefIdeal.τ).loc Cert.FfnFinalSRefIdeal.main_arg2) = m ((c.tc : Thread Cert.FfnFinalSRefIdeal.nD Cert.FfnFinalSRefIdeal.τ).loc Cert.FfnFinalSRefIdeal.main_arg2)
      ∧ r.2.mem ((c.tc : Thread Cert.FfnFinalSRefIdeal.nD Cert.FfnFinalSRefIdeal.τ).loc Cert.FfnFinalSRefIdeal.main_arg3) = m ((c.tc : Thread Cert.FfnFinalSRefIdeal.nD Cert.FfnFinalSRefIdeal.τ).loc Cert.FfnFinalSRefIdeal.main_arg3)
      ∧ r.2.mem ((c.tc : Thread Cert.FfnFinalSRefIdeal.nD Cert.FfnFinalSRefIdeal.τ).loc Cert.FfnFinalSRefIdeal.main_arg4) = m ((c.tc : Thread Cert.FfnFinalSRefIdeal.nD Cert.FfnFinalSRefIdeal.τ).loc Cert.FfnFinalSRefIdeal.main_arg4)
      ∧ r.2.mem ((c.tc : Thread Cert.FfnFinalSRefIdeal.nD Cert.FfnFinalSRefIdeal.τ).loc Cert.FfnFinalSRefIdeal.main_arg5) = m ((c.tc : Thread Cert.FfnFinalSRefIdeal.nD Cert.FfnFinalSRefIdeal.τ).loc Cert.FfnFinalSRefIdeal.main_arg5))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ r.2.sem = fun _ => 0)

def quiescent_MergeIdeal_pre_finite_lse [hMergeIdeal : Cert.MergeIdeal.Facts] [hPre_finite_lse : Cert.Pre_finite_lse.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal_finite_lse m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10))
      ∧ r.2.sem = fun _ => 0)

def quiescent_MergeRefIdeal_pre_finite_lse [hMergeRefIdeal : Cert.MergeRefIdeal.Facts] [hPre_finite_lse : Cert.Pre_finite_lse.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal_finite_lse m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10))
      ∧ r.2.sem = fun _ => 0)

def preserves_ProjA_ProjAIdeal : Prop :=
  True

def algebraic_ProjAIdeal_ProjARefIdeal [hProjAIdeal : Cert.ProjAIdeal.Facts] [hProjARefIdeal : Cert.ProjARefIdeal.Facts] : Prop :=
  ∀ (m : (ℓ : Loc Cert.ProjAIdeal.nD Cert.ProjAIdeal.τ Cert.ProjAIdeal.sig) → Buf (Elt Ideal) ℓ) (g : Dev Cert.ProjAIdeal.nD → PrngReg)
    (m' : (ℓ : Loc Cert.ProjARefIdeal.nD Cert.ProjARefIdeal.τ Cert.ProjARefIdeal.sig) → Buf (Elt Ideal) ℓ) (g' : Dev Cert.ProjARefIdeal.nD → PrngReg), Pre_ProjAIdeal m →
    (∀ c : Dev Cert.ProjAIdeal.nD,
      m' ((c.tc : Thread Cert.ProjARefIdeal.nD Cert.ProjARefIdeal.τ).loc Cert.ProjARefIdeal.main_arg0) = m ((c.tc : Thread Cert.ProjAIdeal.nD Cert.ProjAIdeal.τ).loc Cert.ProjAIdeal.main_arg0)
      ∧ m' ((c.tc : Thread Cert.ProjARefIdeal.nD Cert.ProjARefIdeal.τ).loc Cert.ProjARefIdeal.main_arg1) = m ((c.tc : Thread Cert.ProjAIdeal.nD Cert.ProjAIdeal.τ).loc Cert.ProjAIdeal.main_arg1)
      ∧ m' ((c.tc : Thread Cert.ProjARefIdeal.nD Cert.ProjARefIdeal.τ).loc Cert.ProjARefIdeal.main_arg2) = m ((c.tc : Thread Cert.ProjAIdeal.nD Cert.ProjAIdeal.τ).loc Cert.ProjAIdeal.main_arg2)
      ∧ m' ((c.tc : Thread Cert.ProjARefIdeal.nD Cert.ProjARefIdeal.τ).loc Cert.ProjARefIdeal.main_arg3) = m ((c.tc : Thread Cert.ProjAIdeal.nD Cert.ProjAIdeal.τ).loc Cert.ProjAIdeal.main_arg3)
      ∧ m' ((c.tc : Thread Cert.ProjARefIdeal.nD Cert.ProjARefIdeal.τ).loc Cert.ProjARefIdeal.main_arg4) = m ((c.tc : Thread Cert.ProjAIdeal.nD Cert.ProjAIdeal.τ).loc Cert.ProjAIdeal.main_arg4)) →
    ∃ (v0 : (c : Dev Cert.ProjAIdeal.nD) → Buf (Elt Ideal) ((c.tc : Thread Cert.ProjAIdeal.nD Cert.ProjAIdeal.τ).loc Cert.ProjAIdeal.main_v26)),
      θ_run (Cert.ProjAIdeal.defs (F := Ideal)) (onTc (τ := Cert.ProjAIdeal.τ) (Cert.ProjAIdeal.main (F := Ideal))) ⟨m, fun _ => 0, g⟩ (fun r => ∀ c : Dev Cert.ProjAIdeal.nD,
          r.2.mem ((c.tc : Thread Cert.ProjAIdeal.nD Cert.ProjAIdeal.τ).loc Cert.ProjAIdeal.main_v26) = v0 c
          ∧ r.2.mem ((c.tc : Thread Cert.ProjAIdeal.nD Cert.ProjAIdeal.τ).loc Cert.ProjAIdeal.main_arg0) = m ((c.tc : Thread Cert.ProjAIdeal.nD Cert.ProjAIdeal.τ).loc Cert.ProjAIdeal.main_arg0)
          ∧ r.2.mem ((c.tc : Thread Cert.ProjAIdeal.nD Cert.ProjAIdeal.τ).loc Cert.ProjAIdeal.main_arg1) = m ((c.tc : Thread Cert.ProjAIdeal.nD Cert.ProjAIdeal.τ).loc Cert.ProjAIdeal.main_arg1)
          ∧ r.2.mem ((c.tc : Thread Cert.ProjAIdeal.nD Cert.ProjAIdeal.τ).loc Cert.ProjAIdeal.main_arg2) = m ((c.tc : Thread Cert.ProjAIdeal.nD Cert.ProjAIdeal.τ).loc Cert.ProjAIdeal.main_arg2)
          ∧ r.2.mem ((c.tc : Thread Cert.ProjAIdeal.nD Cert.ProjAIdeal.τ).loc Cert.ProjAIdeal.main_arg3) = m ((c.tc : Thread Cert.ProjAIdeal.nD Cert.ProjAIdeal.τ).loc Cert.ProjAIdeal.main_arg3)
          ∧ r.2.mem ((c.tc : Thread Cert.ProjAIdeal.nD Cert.ProjAIdeal.τ).loc Cert.ProjAIdeal.main_arg4) = m ((c.tc : Thread Cert.ProjAIdeal.nD Cert.ProjAIdeal.τ).loc Cert.ProjAIdeal.main_arg4))
      ∧ θ_run (Cert.ProjARefIdeal.defs (F := Ideal)) (onTc (τ := Cert.ProjARefIdeal.τ) (Cert.ProjARefIdeal.main (F := Ideal))) ⟨m', fun _ => 0, g'⟩ (fun r => ∀ c : Dev Cert.ProjARefIdeal.nD,
          r.2.mem ((c.tc : Thread Cert.ProjARefIdeal.nD Cert.ProjARefIdeal.τ).loc Cert.ProjARefIdeal.main_v42) = v0 c
          ∧ r.2.mem ((c.tc : Thread Cert.ProjARefIdeal.nD Cert.ProjARefIdeal.τ).loc Cert.ProjARefIdeal.main_arg0) = m' ((c.tc : Thread Cert.ProjARefIdeal.nD Cert.ProjARefIdeal.τ).loc Cert.ProjARefIdeal.main_arg0)
          ∧ r.2.mem ((c.tc : Thread Cert.ProjARefIdeal.nD Cert.ProjARefIdeal.τ).loc Cert.ProjARefIdeal.main_arg1) = m' ((c.tc : Thread Cert.ProjARefIdeal.nD Cert.ProjARefIdeal.τ).loc Cert.ProjARefIdeal.main_arg1)
          ∧ r.2.mem ((c.tc : Thread Cert.ProjARefIdeal.nD Cert.ProjARefIdeal.τ).loc Cert.ProjARefIdeal.main_arg2) = m' ((c.tc : Thread Cert.ProjARefIdeal.nD Cert.ProjARefIdeal.τ).loc Cert.ProjARefIdeal.main_arg2)
          ∧ r.2.mem ((c.tc : Thread Cert.ProjARefIdeal.nD Cert.ProjARefIdeal.τ).loc Cert.ProjARefIdeal.main_arg3) = m' ((c.tc : Thread Cert.ProjARefIdeal.nD Cert.ProjARefIdeal.τ).loc Cert.ProjARefIdeal.main_arg3)
          ∧ r.2.mem ((c.tc : Thread Cert.ProjARefIdeal.nD Cert.ProjARefIdeal.τ).loc Cert.ProjARefIdeal.main_arg4) = m' ((c.tc : Thread Cert.ProjARefIdeal.nD Cert.ProjARefIdeal.τ).loc Cert.ProjARefIdeal.main_arg4))

def preserves_ProjC_ProjCIdeal : Prop :=
  True

def algebraic_ProjCIdeal_ProjCRefIdeal [hProjCIdeal : Cert.ProjCIdeal.Facts] [hProjCRefIdeal : Cert.ProjCRefIdeal.Facts] : Prop :=
  ∀ (m : (ℓ : Loc Cert.ProjCIdeal.nD Cert.ProjCIdeal.τ Cert.ProjCIdeal.sig) → Buf (Elt Ideal) ℓ) (g : Dev Cert.ProjCIdeal.nD → PrngReg)
    (m' : (ℓ : Loc Cert.ProjCRefIdeal.nD Cert.ProjCRefIdeal.τ Cert.ProjCRefIdeal.sig) → Buf (Elt Ideal) ℓ) (g' : Dev Cert.ProjCRefIdeal.nD → PrngReg), Pre_ProjCIdeal m →
    (∀ c : Dev Cert.ProjCIdeal.nD,
      m' ((c.tc : Thread Cert.ProjCRefIdeal.nD Cert.ProjCRefIdeal.τ).loc Cert.ProjCRefIdeal.main_arg0) = m ((c.tc : Thread Cert.ProjCIdeal.nD Cert.ProjCIdeal.τ).loc Cert.ProjCIdeal.main_arg0)
      ∧ m' ((c.tc : Thread Cert.ProjCRefIdeal.nD Cert.ProjCRefIdeal.τ).loc Cert.ProjCRefIdeal.main_arg1) = m ((c.tc : Thread Cert.ProjCIdeal.nD Cert.ProjCIdeal.τ).loc Cert.ProjCIdeal.main_arg1)
      ∧ m' ((c.tc : Thread Cert.ProjCRefIdeal.nD Cert.ProjCRefIdeal.τ).loc Cert.ProjCRefIdeal.main_arg2) = m ((c.tc : Thread Cert.ProjCIdeal.nD Cert.ProjCIdeal.τ).loc Cert.ProjCIdeal.main_arg2)
      ∧ m' ((c.tc : Thread Cert.ProjCRefIdeal.nD Cert.ProjCRefIdeal.τ).loc Cert.ProjCRefIdeal.main_arg3) = m ((c.tc : Thread Cert.ProjCIdeal.nD Cert.ProjCIdeal.τ).loc Cert.ProjCIdeal.main_arg3)
      ∧ m' ((c.tc : Thread Cert.ProjCRefIdeal.nD Cert.ProjCRefIdeal.τ).loc Cert.ProjCRefIdeal.main_arg4) = m ((c.tc : Thread Cert.ProjCIdeal.nD Cert.ProjCIdeal.τ).loc Cert.ProjCIdeal.main_arg4)) →
    ∃ (v0 : (c : Dev Cert.ProjCIdeal.nD) → Buf (Elt Ideal) ((c.tc : Thread Cert.ProjCIdeal.nD Cert.ProjCIdeal.τ).loc Cert.ProjCIdeal.main_v15)),
      θ_run (Cert.ProjCIdeal.defs (F := Ideal)) (onTc (τ := Cert.ProjCIdeal.τ) (Cert.ProjCIdeal.main (F := Ideal))) ⟨m, fun _ => 0, g⟩ (fun r => ∀ c : Dev Cert.ProjCIdeal.nD,
          r.2.mem ((c.tc : Thread Cert.ProjCIdeal.nD Cert.ProjCIdeal.τ).loc Cert.ProjCIdeal.main_v15) = v0 c
          ∧ r.2.mem ((c.tc : Thread Cert.ProjCIdeal.nD Cert.ProjCIdeal.τ).loc Cert.ProjCIdeal.main_arg0) = m ((c.tc : Thread Cert.ProjCIdeal.nD Cert.ProjCIdeal.τ).loc Cert.ProjCIdeal.main_arg0)
          ∧ r.2.mem ((c.tc : Thread Cert.ProjCIdeal.nD Cert.ProjCIdeal.τ).loc Cert.ProjCIdeal.main_arg1) = m ((c.tc : Thread Cert.ProjCIdeal.nD Cert.ProjCIdeal.τ).loc Cert.ProjCIdeal.main_arg1)
          ∧ r.2.mem ((c.tc : Thread Cert.ProjCIdeal.nD Cert.ProjCIdeal.τ).loc Cert.ProjCIdeal.main_arg2) = m ((c.tc : Thread Cert.ProjCIdeal.nD Cert.ProjCIdeal.τ).loc Cert.ProjCIdeal.main_arg2)
          ∧ r.2.mem ((c.tc : Thread Cert.ProjCIdeal.nD Cert.ProjCIdeal.τ).loc Cert.ProjCIdeal.main_arg3) = m ((c.tc : Thread Cert.ProjCIdeal.nD Cert.ProjCIdeal.τ).loc Cert.ProjCIdeal.main_arg3)
          ∧ r.2.mem ((c.tc : Thread Cert.ProjCIdeal.nD Cert.ProjCIdeal.τ).loc Cert.ProjCIdeal.main_arg4) = m ((c.tc : Thread Cert.ProjCIdeal.nD Cert.ProjCIdeal.τ).loc Cert.ProjCIdeal.main_arg4))
      ∧ θ_run (Cert.ProjCRefIdeal.defs (F := Ideal)) (onTc (τ := Cert.ProjCRefIdeal.τ) (Cert.ProjCRefIdeal.main (F := Ideal))) ⟨m', fun _ => 0, g'⟩ (fun r => ∀ c : Dev Cert.ProjCRefIdeal.nD,
          r.2.mem ((c.tc : Thread Cert.ProjCRefIdeal.nD Cert.ProjCRefIdeal.τ).loc Cert.ProjCRefIdeal.main_v62) = v0 c
          ∧ r.2.mem ((c.tc : Thread Cert.ProjCRefIdeal.nD Cert.ProjCRefIdeal.τ).loc Cert.ProjCRefIdeal.main_arg0) = m' ((c.tc : Thread Cert.ProjCRefIdeal.nD Cert.ProjCRefIdeal.τ).loc Cert.ProjCRefIdeal.main_arg0)
          ∧ r.2.mem ((c.tc : Thread Cert.ProjCRefIdeal.nD Cert.ProjCRefIdeal.τ).loc Cert.ProjCRefIdeal.main_arg1) = m' ((c.tc : Thread Cert.ProjCRefIdeal.nD Cert.ProjCRefIdeal.τ).loc Cert.ProjCRefIdeal.main_arg1)
          ∧ r.2.mem ((c.tc : Thread Cert.ProjCRefIdeal.nD Cert.ProjCRefIdeal.τ).loc Cert.ProjCRefIdeal.main_arg2) = m' ((c.tc : Thread Cert.ProjCRefIdeal.nD Cert.ProjCRefIdeal.τ).loc Cert.ProjCRefIdeal.main_arg2)
          ∧ r.2.mem ((c.tc : Thread Cert.ProjCRefIdeal.nD Cert.ProjCRefIdeal.τ).loc Cert.ProjCRefIdeal.main_arg3) = m' ((c.tc : Thread Cert.ProjCRefIdeal.nD Cert.ProjCRefIdeal.τ).loc Cert.ProjCRefIdeal.main_arg3)
          ∧ r.2.mem ((c.tc : Thread Cert.ProjCRefIdeal.nD Cert.ProjCRefIdeal.τ).loc Cert.ProjCRefIdeal.main_arg4) = m' ((c.tc : Thread Cert.ProjCRefIdeal.nD Cert.ProjCRefIdeal.τ).loc Cert.ProjCRefIdeal.main_arg4))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v5)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v5) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v18) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_FfnFinal_FfnFinalIdeal : Prop :=
  True

def algebraic_FfnFinalIdeal_FfnFinalRefIdeal [hFfnFinalIdeal : Cert.FfnFinalIdeal.Facts] [hFfnFinalRefIdeal : Cert.FfnFinalRefIdeal.Facts] : Prop :=
  ∀ (m : (ℓ : Loc Cert.FfnFinalIdeal.nD Cert.FfnFinalIdeal.τ Cert.FfnFinalIdeal.sig) → Buf (Elt Ideal) ℓ) (g : Dev Cert.FfnFinalIdeal.nD → PrngReg)
    (m' : (ℓ : Loc Cert.FfnFinalRefIdeal.nD Cert.FfnFinalRefIdeal.τ Cert.FfnFinalRefIdeal.sig) → Buf (Elt Ideal) ℓ) (g' : Dev Cert.FfnFinalRefIdeal.nD → PrngReg), Pre_FfnFinalIdeal m →
    (∀ c : Dev Cert.FfnFinalIdeal.nD,
      m' ((c.tc : Thread Cert.FfnFinalRefIdeal.nD Cert.FfnFinalRefIdeal.τ).loc Cert.FfnFinalRefIdeal.main_arg0) = m ((c.tc : Thread Cert.FfnFinalIdeal.nD Cert.FfnFinalIdeal.τ).loc Cert.FfnFinalIdeal.main_arg0)
      ∧ m' ((c.tc : Thread Cert.FfnFinalRefIdeal.nD Cert.FfnFinalRefIdeal.τ).loc Cert.FfnFinalRefIdeal.main_arg1) = m ((c.tc : Thread Cert.FfnFinalIdeal.nD Cert.FfnFinalIdeal.τ).loc Cert.FfnFinalIdeal.main_arg1)
      ∧ m' ((c.tc : Thread Cert.FfnFinalRefIdeal.nD Cert.FfnFinalRefIdeal.τ).loc Cert.FfnFinalRefIdeal.main_arg2) = m ((c.tc : Thread Cert.FfnFinalIdeal.nD Cert.FfnFinalIdeal.τ).loc Cert.FfnFinalIdeal.main_arg2)
      ∧ m' ((c.tc : Thread Cert.FfnFinalRefIdeal.nD Cert.FfnFinalRefIdeal.τ).loc Cert.FfnFinalRefIdeal.main_arg3) = m ((c.tc : Thread Cert.FfnFinalIdeal.nD Cert.FfnFinalIdeal.τ).loc Cert.FfnFinalIdeal.main_arg3)
      ∧ m' ((c.tc : Thread Cert.FfnFinalRefIdeal.nD Cert.FfnFinalRefIdeal.τ).loc Cert.FfnFinalRefIdeal.main_arg4) = m ((c.tc : Thread Cert.FfnFinalIdeal.nD Cert.FfnFinalIdeal.τ).loc Cert.FfnFinalIdeal.main_arg4)
      ∧ m' ((c.tc : Thread Cert.FfnFinalRefIdeal.nD Cert.FfnFinalRefIdeal.τ).loc Cert.FfnFinalRefIdeal.main_arg5) = m ((c.tc : Thread Cert.FfnFinalIdeal.nD Cert.FfnFinalIdeal.τ).loc Cert.FfnFinalIdeal.main_arg5)) →
    ∃ (v0 : (c : Dev Cert.FfnFinalIdeal.nD) → Buf (Elt Ideal) ((c.tc : Thread Cert.FfnFinalIdeal.nD Cert.FfnFinalIdeal.τ).loc Cert.FfnFinalIdeal.main_v5)),
      θ_run (Cert.FfnFinalIdeal.defs (F := Ideal)) (onTc (τ := Cert.FfnFinalIdeal.τ) (Cert.FfnFinalIdeal.main (F := Ideal))) ⟨m, fun _ => 0, g⟩ (fun r => ∀ c : Dev Cert.FfnFinalIdeal.nD,
          r.2.mem ((c.tc : Thread Cert.FfnFinalIdeal.nD Cert.FfnFinalIdeal.τ).loc Cert.FfnFinalIdeal.main_v5) = v0 c
          ∧ r.2.mem ((c.tc : Thread Cert.FfnFinalIdeal.nD Cert.FfnFinalIdeal.τ).loc Cert.FfnFinalIdeal.main_arg0) = m ((c.tc : Thread Cert.FfnFinalIdeal.nD Cert.FfnFinalIdeal.τ).loc Cert.FfnFinalIdeal.main_arg0)
          ∧ r.2.mem ((c.tc : Thread Cert.FfnFinalIdeal.nD Cert.FfnFinalIdeal.τ).loc Cert.FfnFinalIdeal.main_arg1) = m ((c.tc : Thread Cert.FfnFinalIdeal.nD Cert.FfnFinalIdeal.τ).loc Cert.FfnFinalIdeal.main_arg1)
          ∧ r.2.mem ((c.tc : Thread Cert.FfnFinalIdeal.nD Cert.FfnFinalIdeal.τ).loc Cert.FfnFinalIdeal.main_arg2) = m ((c.tc : Thread Cert.FfnFinalIdeal.nD Cert.FfnFinalIdeal.τ).loc Cert.FfnFinalIdeal.main_arg2)
          ∧ r.2.mem ((c.tc : Thread Cert.FfnFinalIdeal.nD Cert.FfnFinalIdeal.τ).loc Cert.FfnFinalIdeal.main_arg3) = m ((c.tc : Thread Cert.FfnFinalIdeal.nD Cert.FfnFinalIdeal.τ).loc Cert.FfnFinalIdeal.main_arg3)
          ∧ r.2.mem ((c.tc : Thread Cert.FfnFinalIdeal.nD Cert.FfnFinalIdeal.τ).loc Cert.FfnFinalIdeal.main_arg4) = m ((c.tc : Thread Cert.FfnFinalIdeal.nD Cert.FfnFinalIdeal.τ).loc Cert.FfnFinalIdeal.main_arg4)
          ∧ r.2.mem ((c.tc : Thread Cert.FfnFinalIdeal.nD Cert.FfnFinalIdeal.τ).loc Cert.FfnFinalIdeal.main_arg5) = m ((c.tc : Thread Cert.FfnFinalIdeal.nD Cert.FfnFinalIdeal.τ).loc Cert.FfnFinalIdeal.main_arg5))
      ∧ θ_run (Cert.FfnFinalRefIdeal.defs (F := Ideal)) (onTc (τ := Cert.FfnFinalRefIdeal.τ) (Cert.FfnFinalRefIdeal.main (F := Ideal))) ⟨m', fun _ => 0, g'⟩ (fun r => ∀ c : Dev Cert.FfnFinalRefIdeal.nD,
          r.2.mem ((c.tc : Thread Cert.FfnFinalRefIdeal.nD Cert.FfnFinalRefIdeal.τ).loc Cert.FfnFinalRefIdeal.main_v31) = v0 c
          ∧ r.2.mem ((c.tc : Thread Cert.FfnFinalRefIdeal.nD Cert.FfnFinalRefIdeal.τ).loc Cert.FfnFinalRefIdeal.main_arg0) = m' ((c.tc : Thread Cert.FfnFinalRefIdeal.nD Cert.FfnFinalRefIdeal.τ).loc Cert.FfnFinalRefIdeal.main_arg0)
          ∧ r.2.mem ((c.tc : Thread Cert.FfnFinalRefIdeal.nD Cert.FfnFinalRefIdeal.τ).loc Cert.FfnFinalRefIdeal.main_arg1) = m' ((c.tc : Thread Cert.FfnFinalRefIdeal.nD Cert.FfnFinalRefIdeal.τ).loc Cert.FfnFinalRefIdeal.main_arg1)
          ∧ r.2.mem ((c.tc : Thread Cert.FfnFinalRefIdeal.nD Cert.FfnFinalRefIdeal.τ).loc Cert.FfnFinalRefIdeal.main_arg2) = m' ((c.tc : Thread Cert.FfnFinalRefIdeal.nD Cert.FfnFinalRefIdeal.τ).loc Cert.FfnFinalRefIdeal.main_arg2)
          ∧ r.2.mem ((c.tc : Thread Cert.FfnFinalRefIdeal.nD Cert.FfnFinalRefIdeal.τ).loc Cert.FfnFinalRefIdeal.main_arg3) = m' ((c.tc : Thread Cert.FfnFinalRefIdeal.nD Cert.FfnFinalRefIdeal.τ).loc Cert.FfnFinalRefIdeal.main_arg3)
          ∧ r.2.mem ((c.tc : Thread Cert.FfnFinalRefIdeal.nD Cert.FfnFinalRefIdeal.τ).loc Cert.FfnFinalRefIdeal.main_arg4) = m' ((c.tc : Thread Cert.FfnFinalRefIdeal.nD Cert.FfnFinalRefIdeal.τ).loc Cert.FfnFinalRefIdeal.main_arg4)
          ∧ r.2.mem ((c.tc : Thread Cert.FfnFinalRefIdeal.nD Cert.FfnFinalRefIdeal.τ).loc Cert.FfnFinalRefIdeal.main_arg5) = m' ((c.tc : Thread Cert.FfnFinalRefIdeal.nD Cert.FfnFinalRefIdeal.τ).loc Cert.FfnFinalRefIdeal.main_arg5))

def preserves_FfnFinalS_FfnFinalSIdeal : Prop :=
  True

def algebraic_FfnFinalSIdeal_FfnFinalSRefIdeal [hFfnFinalSIdeal : Cert.FfnFinalSIdeal.Facts] [hFfnFinalSRefIdeal : Cert.FfnFinalSRefIdeal.Facts] : Prop :=
  ∀ (m : (ℓ : Loc Cert.FfnFinalSIdeal.nD Cert.FfnFinalSIdeal.τ Cert.FfnFinalSIdeal.sig) → Buf (Elt Ideal) ℓ) (g : Dev Cert.FfnFinalSIdeal.nD → PrngReg)
    (m' : (ℓ : Loc Cert.FfnFinalSRefIdeal.nD Cert.FfnFinalSRefIdeal.τ Cert.FfnFinalSRefIdeal.sig) → Buf (Elt Ideal) ℓ) (g' : Dev Cert.FfnFinalSRefIdeal.nD → PrngReg), Pre_FfnFinalSIdeal m →
    (∀ c : Dev Cert.FfnFinalSIdeal.nD,
      m' ((c.tc : Thread Cert.FfnFinalSRefIdeal.nD Cert.FfnFinalSRefIdeal.τ).loc Cert.FfnFinalSRefIdeal.main_arg0) = m ((c.tc : Thread Cert.FfnFinalSIdeal.nD Cert.FfnFinalSIdeal.τ).loc Cert.FfnFinalSIdeal.main_arg0)
      ∧ m' ((c.tc : Thread Cert.FfnFinalSRefIdeal.nD Cert.FfnFinalSRefIdeal.τ).loc Cert.FfnFinalSRefIdeal.main_arg1) = m ((c.tc : Thread Cert.FfnFinalSIdeal.nD Cert.FfnFinalSIdeal.τ).loc Cert.FfnFinalSIdeal.main_arg1)
      ∧ m' ((c.tc : Thread Cert.FfnFinalSRefIdeal.nD Cert.FfnFinalSRefIdeal.τ).loc Cert.FfnFinalSRefIdeal.main_arg2) = m ((c.tc : Thread Cert.FfnFinalSIdeal.nD Cert.FfnFinalSIdeal.τ).loc Cert.FfnFinalSIdeal.main_arg2)
      ∧ m' ((c.tc : Thread Cert.FfnFinalSRefIdeal.nD Cert.FfnFinalSRefIdeal.τ).loc Cert.FfnFinalSRefIdeal.main_arg3) = m ((c.tc : Thread Cert.FfnFinalSIdeal.nD Cert.FfnFinalSIdeal.τ).loc Cert.FfnFinalSIdeal.main_arg3)
      ∧ m' ((c.tc : Thread Cert.FfnFinalSRefIdeal.nD Cert.FfnFinalSRefIdeal.τ).loc Cert.FfnFinalSRefIdeal.main_arg4) = m ((c.tc : Thread Cert.FfnFinalSIdeal.nD Cert.FfnFinalSIdeal.τ).loc Cert.FfnFinalSIdeal.main_arg4)
      ∧ m' ((c.tc : Thread Cert.FfnFinalSRefIdeal.nD Cert.FfnFinalSRefIdeal.τ).loc Cert.FfnFinalSRefIdeal.main_arg5) = m ((c.tc : Thread Cert.FfnFinalSIdeal.nD Cert.FfnFinalSIdeal.τ).loc Cert.FfnFinalSIdeal.main_arg5)) →
    ∃ (v0 : (c : Dev Cert.FfnFinalSIdeal.nD) → Buf (Elt Ideal) ((c.tc : Thread Cert.FfnFinalSIdeal.nD Cert.FfnFinalSIdeal.τ).loc Cert.FfnFinalSIdeal.main_v5)),
      θ_run (Cert.FfnFinalSIdeal.defs (F := Ideal)) (onTc (τ := Cert.FfnFinalSIdeal.τ) (Cert.FfnFinalSIdeal.main (F := Ideal))) ⟨m, fun _ => 0, g⟩ (fun r => ∀ c : Dev Cert.FfnFinalSIdeal.nD,
          r.2.mem ((c.tc : Thread Cert.FfnFinalSIdeal.nD Cert.FfnFinalSIdeal.τ).loc Cert.FfnFinalSIdeal.main_v5) = v0 c
          ∧ r.2.mem ((c.tc : Thread Cert.FfnFinalSIdeal.nD Cert.FfnFinalSIdeal.τ).loc Cert.FfnFinalSIdeal.main_arg0) = m ((c.tc : Thread Cert.FfnFinalSIdeal.nD Cert.FfnFinalSIdeal.τ).loc Cert.FfnFinalSIdeal.main_arg0)
          ∧ r.2.mem ((c.tc : Thread Cert.FfnFinalSIdeal.nD Cert.FfnFinalSIdeal.τ).loc Cert.FfnFinalSIdeal.main_arg1) = m ((c.tc : Thread Cert.FfnFinalSIdeal.nD Cert.FfnFinalSIdeal.τ).loc Cert.FfnFinalSIdeal.main_arg1)
          ∧ r.2.mem ((c.tc : Thread Cert.FfnFinalSIdeal.nD Cert.FfnFinalSIdeal.τ).loc Cert.FfnFinalSIdeal.main_arg2) = m ((c.tc : Thread Cert.FfnFinalSIdeal.nD Cert.FfnFinalSIdeal.τ).loc Cert.FfnFinalSIdeal.main_arg2)
          ∧ r.2.mem ((c.tc : Thread Cert.FfnFinalSIdeal.nD Cert.FfnFinalSIdeal.τ).loc Cert.FfnFinalSIdeal.main_arg3) = m ((c.tc : Thread Cert.FfnFinalSIdeal.nD Cert.FfnFinalSIdeal.τ).loc Cert.FfnFinalSIdeal.main_arg3)
          ∧ r.2.mem ((c.tc : Thread Cert.FfnFinalSIdeal.nD Cert.FfnFinalSIdeal.τ).loc Cert.FfnFinalSIdeal.main_arg4) = m ((c.tc : Thread Cert.FfnFinalSIdeal.nD Cert.FfnFinalSIdeal.τ).loc Cert.FfnFinalSIdeal.main_arg4)
          ∧ r.2.mem ((c.tc : Thread Cert.FfnFinalSIdeal.nD Cert.FfnFinalSIdeal.τ).loc Cert.FfnFinalSIdeal.main_arg5) = m ((c.tc : Thread Cert.FfnFinalSIdeal.nD Cert.FfnFinalSIdeal.τ).loc Cert.FfnFinalSIdeal.main_arg5))
      ∧ θ_run (Cert.FfnFinalSRefIdeal.defs (F := Ideal)) (onTc (τ := Cert.FfnFinalSRefIdeal.τ) (Cert.FfnFinalSRefIdeal.main (F := Ideal))) ⟨m', fun _ => 0, g'⟩ (fun r => ∀ c : Dev Cert.FfnFinalSRefIdeal.nD,
          r.2.mem ((c.tc : Thread Cert.FfnFinalSRefIdeal.nD Cert.FfnFinalSRefIdeal.τ).loc Cert.FfnFinalSRefIdeal.main_v31) = v0 c
          ∧ r.2.mem ((c.tc : Thread Cert.FfnFinalSRefIdeal.nD Cert.FfnFinalSRefIdeal.τ).loc Cert.FfnFinalSRefIdeal.main_arg0) = m' ((c.tc : Thread Cert.FfnFinalSRefIdeal.nD Cert.FfnFinalSRefIdeal.τ).loc Cert.FfnFinalSRefIdeal.main_arg0)
          ∧ r.2.mem ((c.tc : Thread Cert.FfnFinalSRefIdeal.nD Cert.FfnFinalSRefIdeal.τ).loc Cert.FfnFinalSRefIdeal.main_arg1) = m' ((c.tc : Thread Cert.FfnFinalSRefIdeal.nD Cert.FfnFinalSRefIdeal.τ).loc Cert.FfnFinalSRefIdeal.main_arg1)
          ∧ r.2.mem ((c.tc : Thread Cert.FfnFinalSRefIdeal.nD Cert.FfnFinalSRefIdeal.τ).loc Cert.FfnFinalSRefIdeal.main_arg2) = m' ((c.tc : Thread Cert.FfnFinalSRefIdeal.nD Cert.FfnFinalSRefIdeal.τ).loc Cert.FfnFinalSRefIdeal.main_arg2)
          ∧ r.2.mem ((c.tc : Thread Cert.FfnFinalSRefIdeal.nD Cert.FfnFinalSRefIdeal.τ).loc Cert.FfnFinalSRefIdeal.main_arg3) = m' ((c.tc : Thread Cert.FfnFinalSRefIdeal.nD Cert.FfnFinalSRefIdeal.τ).loc Cert.FfnFinalSRefIdeal.main_arg3)
          ∧ r.2.mem ((c.tc : Thread Cert.FfnFinalSRefIdeal.nD Cert.FfnFinalSRefIdeal.τ).loc Cert.FfnFinalSRefIdeal.main_arg4) = m' ((c.tc : Thread Cert.FfnFinalSRefIdeal.nD Cert.FfnFinalSRefIdeal.τ).loc Cert.FfnFinalSRefIdeal.main_arg4)
          ∧ r.2.mem ((c.tc : Thread Cert.FfnFinalSRefIdeal.nD Cert.FfnFinalSRefIdeal.τ).loc Cert.FfnFinalSRefIdeal.main_arg5) = m' ((c.tc : Thread Cert.FfnFinalSRefIdeal.nD Cert.FfnFinalSRefIdeal.τ).loc Cert.FfnFinalSRefIdeal.main_arg5))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)) →
    ∃ (v0 : (c : Dev Cert.OutIdeal.nD) → Buf (Elt Ideal) ((c.tc : Thread Cert.OutIdeal.nD Cert.OutIdeal.τ).loc Cert.OutIdeal.main_v1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v1) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v1) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2))

def preserves_Merge_MergeIdeal : Prop :=
  True

def algebraic_MergeIdeal_MergeRefIdeal_pre_finite_lse [hMergeIdeal : Cert.MergeIdeal.Facts] [hMergeRefIdeal : Cert.MergeRefIdeal.Facts] [hPre_finite_lse : Cert.Pre_finite_lse.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal_finite_lse m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)) →
    ∃ (v0 : (c : Dev Cert.MergeIdeal.nD) → Buf (Elt Ideal) ((c.tc : Thread Cert.MergeIdeal.nD Cert.MergeIdeal.τ).loc Cert.MergeIdeal.main_v2)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v2) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v54) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10))

def Claim : Prop :=
  ∃ (hProjA : Cert.ProjA.Facts) (hProjAIdeal : Cert.ProjAIdeal.Facts) (hProjARefIdeal : Cert.ProjARefIdeal.Facts) (hProjC : Cert.ProjC.Facts) (hProjCIdeal : Cert.ProjCIdeal.Facts) (hProjCRefIdeal : Cert.ProjCRefIdeal.Facts) (hFfn : Cert.Ffn.Facts) (hFfnIdeal : Cert.FfnIdeal.Facts) (hFfnRefIdeal : Cert.FfnRefIdeal.Facts) (hFfnFinal : Cert.FfnFinal.Facts) (hFfnFinalIdeal : Cert.FfnFinalIdeal.Facts) (hFfnFinalRefIdeal : Cert.FfnFinalRefIdeal.Facts) (hFfnFinalS : Cert.FfnFinalS.Facts) (hFfnFinalSIdeal : Cert.FfnFinalSIdeal.Facts) (hFfnFinalSRefIdeal : Cert.FfnFinalSRefIdeal.Facts) (hOut : Cert.Out.Facts) (hOutIdeal : Cert.OutIdeal.Facts) (hOutRefIdeal : Cert.OutRefIdeal.Facts) (hMerge : Cert.Merge.Facts) (hMergeIdeal : Cert.MergeIdeal.Facts) (hMergeRefIdeal : Cert.MergeRefIdeal.Facts) (hPre_finite_lse : Cert.Pre_finite_lse.Facts),
    quiescent_ProjA (hProjA := hProjA)
    ∧ quiescent_ProjAIdeal (hProjAIdeal := hProjAIdeal)
    ∧ quiescent_ProjARefIdeal (hProjARefIdeal := hProjARefIdeal)
    ∧ quiescent_ProjC (hProjC := hProjC)
    ∧ quiescent_ProjCIdeal (hProjCIdeal := hProjCIdeal)
    ∧ quiescent_ProjCRefIdeal (hProjCRefIdeal := hProjCRefIdeal)
    ∧ quiescent_Ffn (hFfn := hFfn)
    ∧ quiescent_FfnIdeal (hFfnIdeal := hFfnIdeal)
    ∧ quiescent_FfnRefIdeal (hFfnRefIdeal := hFfnRefIdeal)
    ∧ quiescent_FfnFinal (hFfnFinal := hFfnFinal)
    ∧ quiescent_FfnFinalIdeal (hFfnFinalIdeal := hFfnFinalIdeal)
    ∧ quiescent_FfnFinalRefIdeal (hFfnFinalRefIdeal := hFfnFinalRefIdeal)
    ∧ quiescent_FfnFinalS (hFfnFinalS := hFfnFinalS)
    ∧ quiescent_FfnFinalSIdeal (hFfnFinalSIdeal := hFfnFinalSIdeal)
    ∧ quiescent_FfnFinalSRefIdeal (hFfnFinalSRefIdeal := hFfnFinalSRefIdeal)
    ∧ quiescent_Out (hOut := hOut)
    ∧ quiescent_OutIdeal (hOutIdeal := hOutIdeal)
    ∧ quiescent_OutRefIdeal (hOutRefIdeal := hOutRefIdeal)
    ∧ quiescent_Merge (hMerge := hMerge)
    ∧ quiescent_MergeIdeal (hMergeIdeal := hMergeIdeal)
    ∧ quiescent_MergeIdeal_pre_finite_lse (hMergeIdeal := hMergeIdeal) (hPre_finite_lse := hPre_finite_lse)
    ∧ quiescent_MergeRefIdeal (hMergeRefIdeal := hMergeRefIdeal)
    ∧ quiescent_MergeRefIdeal_pre_finite_lse (hMergeRefIdeal := hMergeRefIdeal) (hPre_finite_lse := hPre_finite_lse)
    ∧ preserves_ProjA_ProjAIdeal
    ∧ algebraic_ProjAIdeal_ProjARefIdeal (hProjAIdeal := hProjAIdeal) (hProjARefIdeal := hProjARefIdeal)
    ∧ preserves_ProjC_ProjCIdeal
    ∧ algebraic_ProjCIdeal_ProjCRefIdeal (hProjCIdeal := hProjCIdeal) (hProjCRefIdeal := hProjCRefIdeal)
    ∧ preserves_Ffn_FfnIdeal
    ∧ algebraic_FfnIdeal_FfnRefIdeal (hFfnIdeal := hFfnIdeal) (hFfnRefIdeal := hFfnRefIdeal)
    ∧ preserves_FfnFinal_FfnFinalIdeal
    ∧ algebraic_FfnFinalIdeal_FfnFinalRefIdeal (hFfnFinalIdeal := hFfnFinalIdeal) (hFfnFinalRefIdeal := hFfnFinalRefIdeal)
    ∧ preserves_FfnFinalS_FfnFinalSIdeal
    ∧ algebraic_FfnFinalSIdeal_FfnFinalSRefIdeal (hFfnFinalSIdeal := hFfnFinalSIdeal) (hFfnFinalSRefIdeal := hFfnFinalSRefIdeal)
    ∧ preserves_Out_OutIdeal
    ∧ algebraic_OutIdeal_OutRefIdeal (hOutIdeal := hOutIdeal) (hOutRefIdeal := hOutRefIdeal)
    ∧ preserves_Merge_MergeIdeal
    ∧ algebraic_MergeIdeal_MergeRefIdeal_pre_finite_lse (hMergeIdeal := hMergeIdeal) (hMergeRefIdeal := hMergeRefIdeal) (hPre_finite_lse := hPre_finite_lse)
-- ==== Pre_finite_lse.lean ====
abbrev S16384x256 : Shape := ⟨2, ![16384, 256]⟩
abbrev S16384x512 : Shape := ⟨2, ![16384, 512]⟩
abbrev S16384x4608 : Shape := ⟨2, ![16384, 4608]⟩
abbrev S512 : Shape := ⟨1, ![512]⟩
abbrev S768x1024 : Shape := ⟨2, ![768, 1024]⟩
abbrev S16384x1024 : Shape := ⟨2, ![16384, 1024]⟩
abbrev S_ : Shape := ⟨0, ![]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel

variable [Facts]

def fn {F : FTy → Type} [FloatOps F] (main_arg0 : FVec F S16384x256 .f32) (main_arg1 : FVec F S16384x256 .f32) (main_arg2 : FVec F S16384x256 .f32) (main_arg3 : FVec F S16384x256 .f32) (main_arg4 : FVec F S16384x256 .f32) (main_arg5 : FVec F S16384x256 .f32) (main_arg6 : FVec F S16384x512 .f32) (main_arg7 : FVec F S16384x4608 .f32) (main_arg8 : FVec F S512 .f32) (main_arg9 : FVec F S768x1024 .f32) (main_arg10 : FVec F S16384x1024 .f32) : IVec S_ 1 :=
  let main_v0 : FVec F S16384x256 .f32 := Host.absf main_arg3
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_c : IVec S_ 1 := constantI S_ 1 1#1
  let main_v3 : IVec S_ 1 := (fun x v => Host.reduce IntOp.andi x v reducesTo_S16384x256_S_d0_1 h_S_) main_v2 main_c
  let main_v4 : FVec F S16384x256 .f32 := Host.absf main_arg4
  let main_cst_0 : FVec F S_ .f32 := constant S_ .f32 0x7F800000#32
  let main_v5 : FVec F S16384x256 .f32 := broadcastInDim S16384x256 ![] bcast_S_S16384x256 main_cst_0
  let main_v6 : IVec S16384x256 1 := cmpf .olt main_v4 main_v5
  let main_c_1 : IVec S_ 1 := constantI S_ 1 1#1
  let main_v7 : IVec S_ 1 := (fun x v => Host.reduce IntOp.andi x v reducesTo_S16384x256_S_d0_1 h_S_) main_v6 main_c_1
  let main_v8 : IVec S_ 1 := andi main_v3 main_v7
  let main_v9 : FVec F S16384x256 .f32 := Host.absf main_arg5
  let main_cst_2 : FVec F S_ .f32 := constant S_ .f32 0x7F800000#32
  let main_v10 : FVec F S16384x256 .f32 := broadcastInDim S16384x256 ![] bcast_S_S16384x256 main_cst_2
  let main_v11 : IVec S16384x256 1 := cmpf .olt main_v9 main_v10
  let main_c_3 : IVec S_ 1 := constantI S_ 1 1#1
  let main_v12 : IVec S_ 1 := (fun x v => Host.reduce IntOp.andi x v reducesTo_S16384x256_S_d0_1 h_S_) main_v11 main_c_3
  let main_v13 : IVec S_ 1 := andi main_v8 main_v12
  main_v13
-- ==== ProjA.lean ====
abbrev S16384x1024 : Shape := ⟨2, ![16384, 1024]⟩
abbrev S1024 : Shape := ⟨1, ![1024]⟩
abbrev S1024x4360 : Shape := ⟨2, ![1024, 4360]⟩
abbrev S8192x32 : Shape := ⟨2, ![8192, 32]⟩
abbrev S1x8192x1x32 : Shape := ⟨4, ![1, 8192, 1, 32]⟩
abbrev S1x8192x4x32 : Shape := ⟨4, ![1, 8192, 4, 32]⟩
abbrev S8192x128 : Shape := ⟨2, ![8192, 128]⟩
abbrev S1x8192x1x128 : Shape := ⟨4, ![1, 8192, 1, 128]⟩
abbrev S2x8192x1x128 : Shape := ⟨4, ![2, 8192, 1, 128]⟩
abbrev S16384x128 : Shape := ⟨2, ![16384, 128]⟩
abbrev S1024x768 : Shape := ⟨2, ![1024, 768]⟩
abbrev S1024x512 : Shape := ⟨2, ![1024, 512]⟩
abbrev S1024x4 : Shape := ⟨2, ![1024, 4]⟩
abbrev S_ : Shape := ⟨0, ![]⟩
abbrev S1024x128 : Shape := ⟨2, ![1024, 128]⟩
abbrev S1024x4608 : Shape := ⟨2, ![1024, 4608]⟩
abbrev S1x1024 : Shape := ⟨2, ![1, 1024]⟩
abbrev S16384x4608 : Shape := ⟨2, ![16384, 4608]⟩
abbrev S512x1024 : Shape := ⟨2, ![512, 1024]⟩
abbrev S512x128 : Shape := ⟨2, ![512, 128]⟩
abbrev S512x4608 : Shape := ⟨2, ![512, 4608]⟩
abbrev S512 : Shape := ⟨1, ![512]⟩
abbrev S512x1 : Shape := ⟨2, ![512, 1]⟩
abbrev S512x512 : Shape := ⟨2, ![512, 512]⟩

abbrev nBuf : Space → Nat
  | .hbm => 36
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4360, .f32⟩
  | .hbm, ⟨3, _⟩ => ⟨S8192x32, .f32⟩
  | .hbm, ⟨4, _⟩ => ⟨S8192x32, .f32⟩
  | .hbm, ⟨5, _⟩ => ⟨S1x8192x1x32, .f32⟩
  | .hbm, ⟨6, _⟩ => ⟨S1x8192x4x32, .f32⟩
  | .hbm, ⟨7, _⟩ => ⟨S8192x128, .f32⟩
  | .hbm, ⟨8, _⟩ => ⟨S8192x32, .f32⟩
  | .hbm, ⟨9, _⟩ => ⟨S8192x32, .f32⟩
  | .hbm, ⟨10, _⟩ => ⟨S8192x128, .f32⟩
  | .hbm, ⟨11, _⟩ => ⟨S1x8192x1x128, .f32⟩
  | .hbm, ⟨12, _⟩ => ⟨S2x8192x1x128, .f32⟩
  | .hbm, ⟨13, _⟩ => ⟨S16384x128, .f32⟩
  | .hbm, ⟨14, _⟩ => ⟨S1x8192x1x128, .f32⟩
  | .hbm, ⟨15, _⟩ => ⟨S2x8192x1x128, .f32⟩
  | .hbm, ⟨16, _⟩ => ⟨S16384x128, .f32⟩
  | .hbm, ⟨17, _⟩ => ⟨S1024x768, .f32⟩
  | .hbm, ⟨18, _⟩ => ⟨S1024x768, .f32⟩
  | .hbm, ⟨19, _⟩ => ⟨S1024x768, .f32⟩
  | .hbm, ⟨20, _⟩ => ⟨S1024x512, .f32⟩
  | .hbm, ⟨21, _⟩ => ⟨S1024x512, .f32⟩
  | .hbm, ⟨22, _⟩ => ⟨S1024x512, .f32⟩
  | .hbm, ⟨23, _⟩ => ⟨S1024x4, .f32⟩
  | .hbm, ⟨24, _⟩ => ⟨S1024x4, .f32⟩
  | .hbm, ⟨25, _⟩ => ⟨S1024x512, .f32⟩
  | .hbm, ⟨26, _⟩ => ⟨S_, .i32⟩
  | .hbm, ⟨27, _⟩ => ⟨S_, .f32⟩
  | .hbm, ⟨28, _⟩ => ⟨S1024x128, .f32⟩
  | .hbm, ⟨29, _⟩ => ⟨S_, .i32⟩
  | .hbm, ⟨30, _⟩ => ⟨S_, .f32⟩
  | .hbm, ⟨31, _⟩ => ⟨S1024x128, .f32⟩
  | .hbm, ⟨32, _⟩ => ⟨S1024x4608, .f32⟩
  | .hbm, ⟨33, _⟩ => ⟨S1024x4608, .bf16⟩
  | .hbm, ⟨34, _⟩ => ⟨S1x1024, .f32⟩
  | .hbm, ⟨35, _⟩ => ⟨S16384x4608, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4608, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x4608, .f32⟩
  | .local _ .vmem, ⟨9, _⟩ => ⟨S512x4608, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_c : Ref sig .tc := ⟨.hbm, 26, rfl⟩
abbrev main_call0_v0 : Ref sig .tc := ⟨.hbm, 27, rfl⟩
abbrev main_v21 : Ref sig .tc := ⟨.hbm, 28, rfl⟩
abbrev main_c_0 : Ref sig .tc := ⟨.hbm, 29, rfl⟩
abbrev main_call1_v0 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4608 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x4608 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ProjARefIdeal.lean ====
abbrev S16384x1024 : Shape := ⟨2, ![16384, 1024]⟩
abbrev S1024 : Shape := ⟨1, ![1024]⟩
abbrev S1024x4360 : Shape := ⟨2, ![1024, 4360]⟩
abbrev S8192x32 : Shape := ⟨2, ![8192, 32]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x4360 : Shape := ⟨2, ![16384, 4360]⟩
abbrev S16384x1536 : Shape := ⟨2, ![16384, 1536]⟩
abbrev S2x8192x24x64 : Shape := ⟨4, ![2, 8192, 24, 64]⟩
abbrev S8192x1x32 : Shape := ⟨3, ![8192, 1, 32]⟩
abbrev S2x8192x24x32 : Shape := ⟨4, ![2, 8192, 24, 32]⟩
abbrev S1x8192x1x32 : Shape := ⟨4, ![1, 8192, 1, 32]⟩
abbrev S16384x124 : Shape := ⟨2, ![16384, 124]⟩
abbrev S16384x512 : Shape := ⟨2, ![16384, 512]⟩
abbrev S16384x768 : Shape := ⟨2, ![16384, 768]⟩
abbrev S16384x4 : Shape := ⟨2, ![16384, 4]⟩
abbrev S16384x4608 : Shape := ⟨2, ![16384, 4608]⟩

abbrev nBuf : Space → Nat
  | .hbm => 52
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4360, .f32⟩
  | .hbm, ⟨3, _⟩ => ⟨S8192x32, .f32⟩
  | .hbm, ⟨4, _⟩ => ⟨S8192x32, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S16384x4360, .f32⟩
  | .hbm, ⟨22, _⟩ => ⟨S16384x1536, .f32⟩
  | .hbm, ⟨23, _⟩ => ⟨S2x8192x24x64, .f32⟩
  | .hbm, ⟨24, _⟩ => ⟨S8192x1x32, .f32⟩
  | .hbm, ⟨25, _⟩ => ⟨S8192x1x32, .f32⟩
  | .hbm, ⟨26, _⟩ => ⟨S2x8192x24x32, .f32⟩
  | .hbm, ⟨27, _⟩ => ⟨S2x8192x24x32, .f32⟩
  | .hbm, ⟨28, _⟩ => ⟨S1x8192x1x32, .f32⟩
  | .hbm, ⟨29, _⟩ => ⟨S2x8192x24x32, .f32⟩
  | .hbm, ⟨30, _⟩ => ⟨S2x8192x24x32, .f32⟩
  | .hbm, ⟨31, _⟩ => ⟨S1x8192x1x32, .f32⟩
  | .hbm, ⟨32, _⟩ => ⟨S2x8192x24x32, .f32⟩
  | .hbm, ⟨33, _⟩ => ⟨S2x8192x24x32, .f32⟩
  | .hbm, ⟨34, _⟩ => ⟨S2x8192x24x32, .f32⟩
  | .hbm, ⟨35, _⟩ => ⟨S1x8192x1x32, .f32⟩
  | .hbm, ⟨36, _⟩ => ⟨S2x8192x24x32, .f32⟩
  | .hbm, ⟨37, _⟩ => ⟨S2x8192x24x32, .f32⟩
  | .hbm, ⟨38, _⟩ => ⟨S1x8192x1x32, .f32⟩
  | .hbm, ⟨39, _⟩ => ⟨S2x8192x24x32, .f32⟩
  | .hbm, ⟨40, _⟩ => ⟨S2x8192x24x32, .f32⟩
  | .hbm, ⟨41, _⟩ => ⟨S2x8192x24x32, .f32⟩
  | .hbm, ⟨42, _⟩ => ⟨S2x8192x24x64, .f32⟩
  | .hbm, ⟨43, _⟩ => ⟨S16384x1536, .f32⟩
  | .hbm, ⟨44, _⟩ => ⟨S_, .f32⟩
  | .hbm, ⟨45, _⟩ => ⟨S16384x124, .f32⟩
  | .hbm, ⟨46, _⟩ => ⟨S16384x1536, .f32⟩
  | .hbm, ⟨47, _⟩ => ⟨S16384x512, .f32⟩
  | .hbm, ⟨48, _⟩ => ⟨S16384x768, .f32⟩
  | .hbm, ⟨49, _⟩ => ⟨S16384x4, .f32⟩
  | .hbm, ⟨50, _⟩ => ⟨S16384x4, .f32⟩
  | .hbm, ⟨51, _⟩ => ⟨S16384x4608, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_cst_2 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩

abbrev nD : Nat := 1
abbrev τ : Topo := Topo.v7x

variable {F : FTy → Type} [FloatOps F]
-- ==== ProjC.lean ====
abbrev S16384x1024 : Shape := ⟨2, ![16384, 1024]⟩
abbrev S1024 : Shape := ⟨1, ![1024]⟩
abbrev S1024x1840 : Shape := ⟨2, ![1024, 1840]⟩
abbrev S8192x32 : Shape := ⟨2, ![8192, 32]⟩
abbrev S1x8192x1x32 : Shape := ⟨4, ![1, 8192, 1, 32]⟩
abbrev S1x8192x4x32 : Shape := ⟨4, ![1, 8192, 4, 32]⟩
abbrev S8192x128 : Shape := ⟨2, ![8192, 128]⟩
abbrev S1x8192x1x128 : Shape := ⟨4, ![1, 8192, 1, 128]⟩
abbrev S2x8192x1x128 : Shape := ⟨4, ![2, 8192, 1, 128]⟩
abbrev S16384x128 : Shape := ⟨2, ![16384, 128]⟩
abbrev S_ : Shape := ⟨0, ![]⟩
abbrev S1024x2048 : Shape := ⟨2, ![1024, 2048]⟩
abbrev S1x1024 : Shape := ⟨2, ![1, 1024]⟩
abbrev S16384x2048 : Shape := ⟨2, ![16384, 2048]⟩
abbrev S512x1024 : Shape := ⟨2, ![512, 1024]⟩
abbrev S512x128 : Shape := ⟨2, ![512, 128]⟩
abbrev S512x2048 : Shape := ⟨2, ![512, 2048]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩

abbrev nBuf : Space → Nat
  | .hbm => 23
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x1840, .f32⟩
  | .hbm, ⟨3, _⟩ => ⟨S8192x32, .f32⟩
  | .hbm, ⟨4, _⟩ => ⟨S8192x32, .f32⟩
  | .hbm, ⟨5, _⟩ => ⟨S1x8192x1x32, .f32⟩
  | .hbm, ⟨6, _⟩ => ⟨S1x8192x4x32, .f32⟩
  | .hbm, ⟨7, _⟩ => ⟨S8192x128, .f32⟩
  | .hbm, ⟨8, _⟩ => ⟨S8192x32, .f32⟩
  | .hbm, ⟨9, _⟩ => ⟨S8192x32, .f32⟩
  | .hbm, ⟨10, _⟩ => ⟨S8192x128, .f32⟩
  | .hbm, ⟨11, _⟩ => ⟨S1x8192x1x128, .f32⟩
  | .hbm, ⟨12, _⟩ => ⟨S2x8192x1x128, .f32⟩
  | .hbm, ⟨13, _⟩ => ⟨S16384x128, .f32⟩
  | .hbm, ⟨14, _⟩ => ⟨S1x8192x1x128, .f32⟩
  | .hbm, ⟨15, _⟩ => ⟨S2x8192x1x128, .f32⟩
  | .hbm, ⟨16, _⟩ => ⟨S16384x128, .f32⟩
  | .hbm, ⟨17, _⟩ => ⟨S_, .i32⟩
  | .hbm, ⟨18, _⟩ => ⟨S_, .f32⟩
  | .hbm, ⟨19, _⟩ => ⟨S1024x2048, .f32⟩
  | .hbm, ⟨20, _⟩ => ⟨S1024x2048, .bf16⟩
  | .hbm, ⟨21, _⟩ => ⟨S1x1024, .f32⟩
  | .hbm, ⟨22, _⟩ => ⟨S16384x2048, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2048, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x2048, .f32⟩
  | .local _ .vmem, ⟨9, _⟩ => ⟨S512x2048, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c : Ref sig .tc := ⟨.hbm, 17, rfl⟩
abbrev main_call0_v0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ProjCRefIdeal.lean ====
abbrev S16384x1024 : Shape := ⟨2, ![16384, 1024]⟩
abbrev S1024 : Shape := ⟨1, ![1024]⟩
abbrev S1024x1840 : Shape := ⟨2, ![1024, 1840]⟩
abbrev S8192x32 : Shape := ⟨2, ![8192, 32]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x1840 : Shape := ⟨2, ![16384, 1840]⟩
abbrev S16384x128 : Shape := ⟨2, ![16384, 128]⟩
abbrev S2x8192x2x64 : Shape := ⟨4, ![2, 8192, 2, 64]⟩
abbrev S8192x1x32 : Shape := ⟨3, ![8192, 1, 32]⟩
abbrev S2x8192x2x32 : Shape := ⟨4, ![2, 8192, 2, 32]⟩
abbrev S1x8192x1x32 : Shape := ⟨4, ![1, 8192, 1, 32]⟩
abbrev S16384x1280 : Shape := ⟨2, ![16384, 1280]⟩
abbrev S16384x176 : Shape := ⟨2, ![16384, 176]⟩
abbrev S16384x208 : Shape := ⟨2, ![16384, 208]⟩
abbrev S16384x2048 : Shape := ⟨2, ![16384, 2048]⟩

abbrev nBuf : Space → Nat
  | .hbm => 72
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x1840, .f32⟩
  | .hbm, ⟨3, _⟩ => ⟨S8192x32, .f32⟩
  | .hbm, ⟨4, _⟩ => ⟨S8192x32, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S16384x1840, .f32⟩
  | .hbm, ⟨22, _⟩ => ⟨S16384x128, .f32⟩
  | .hbm, ⟨23, _⟩ => ⟨S2x8192x2x64, .f32⟩
  | .hbm, ⟨24, _⟩ => ⟨S8192x1x32, .f32⟩
  | .hbm, ⟨25, _⟩ => ⟨S8192x1x32, .f32⟩
  | .hbm, ⟨26, _⟩ => ⟨S2x8192x2x32, .f32⟩
  | .hbm, ⟨27, _⟩ => ⟨S2x8192x2x32, .f32⟩
  | .hbm, ⟨28, _⟩ => ⟨S1x8192x1x32, .f32⟩
  | .hbm, ⟨29, _⟩ => ⟨S2x8192x2x32, .f32⟩
  | .hbm, ⟨30, _⟩ => ⟨S2x8192x2x32, .f32⟩
  | .hbm, ⟨31, _⟩ => ⟨S1x8192x1x32, .f32⟩
  | .hbm, ⟨32, _⟩ => ⟨S2x8192x2x32, .f32⟩
  | .hbm, ⟨33, _⟩ => ⟨S2x8192x2x32, .f32⟩
  | .hbm, ⟨34, _⟩ => ⟨S2x8192x2x32, .f32⟩
  | .hbm, ⟨35, _⟩ => ⟨S1x8192x1x32, .f32⟩
  | .hbm, ⟨36, _⟩ => ⟨S2x8192x2x32, .f32⟩
  | .hbm, ⟨37, _⟩ => ⟨S2x8192x2x32, .f32⟩
  | .hbm, ⟨38, _⟩ => ⟨S1x8192x1x32, .f32⟩
  | .hbm, ⟨39, _⟩ => ⟨S2x8192x2x32, .f32⟩
  | .hbm, ⟨40, _⟩ => ⟨S2x8192x2x32, .f32⟩
  | .hbm, ⟨41, _⟩ => ⟨S2x8192x2x32, .f32⟩
  | .hbm, ⟨42, _⟩ => ⟨S2x8192x2x64, .f32⟩
  | .hbm, ⟨43, _⟩ => ⟨S16384x128, .f32⟩
  | .hbm, ⟨44, _⟩ => ⟨S16384x128, .f32⟩
  | .hbm, ⟨45, _⟩ => ⟨S2x8192x2x64, .f32⟩
  | .hbm, ⟨46, _⟩ => ⟨S8192x1x32, .f32⟩
  | .hbm, ⟨47, _⟩ => ⟨S8192x1x32, .f32⟩
  | .hbm, ⟨48, _⟩ => ⟨S2x8192x2x32, .f32⟩
  | .hbm, ⟨49, _⟩ => ⟨S2x8192x2x32, .f32⟩
  | .hbm, ⟨50, _⟩ => ⟨S1x8192x1x32, .f32⟩
  | .hbm, ⟨51, _⟩ => ⟨S2x8192x2x32, .f32⟩
  | .hbm, ⟨52, _⟩ => ⟨S2x8192x2x32, .f32⟩
  | .hbm, ⟨53, _⟩ => ⟨S1x8192x1x32, .f32⟩
  | .hbm, ⟨54, _⟩ => ⟨S2x8192x2x32, .f32⟩
  | .hbm, ⟨55, _⟩ => ⟨S2x8192x2x32, .f32⟩
  | .hbm, ⟨56, _⟩ => ⟨S2x8192x2x32, .f32⟩
  | .hbm, ⟨57, _⟩ => ⟨S1x8192x1x32, .f32⟩
  | .hbm, ⟨58, _⟩ => ⟨S2x8192x2x32, .f32⟩
  | .hbm, ⟨59, _⟩ => ⟨S2x8192x2x32, .f32⟩
  | .hbm, ⟨60, _⟩ => ⟨S1x8192x1x32, .f32⟩
  | .hbm, ⟨61, _⟩ => ⟨S2x8192x2x32, .f32⟩
  | .hbm, ⟨62, _⟩ => ⟨S2x8192x2x32, .f32⟩
  | .hbm, ⟨63, _⟩ => ⟨S2x8192x2x32, .f32⟩
  | .hbm, ⟨64, _⟩ => ⟨S2x8192x2x64, .f32⟩
  | .hbm, ⟨65, _⟩ => ⟨S16384x128, .f32⟩
  | .hbm, ⟨66, _⟩ => ⟨S16384x1280, .f32⟩
  | .hbm, ⟨67, _⟩ => ⟨S16384x128, .f32⟩
  | .hbm, ⟨68, _⟩ => ⟨S16384x176, .f32⟩
  | .hbm, ⟨69, _⟩ => ⟨S_, .f32⟩
  | .hbm, ⟨70, _⟩ => ⟨S16384x208, .f32⟩
  | .hbm, ⟨71, _⟩ => ⟨S16384x2048, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_cst_2 : Ref sig .tc := ⟨.hbm, 69, rfl⟩
abbrev main_v61 : Ref sig .tc := ⟨.hbm, 70, rfl⟩
abbrev main_v62 : Ref sig .tc := ⟨.hbm, 71, rfl⟩

abbrev nD : Nat := 1
abbrev τ : Topo := Topo.v7x

variable {F : FTy → Type} [FloatOps F]
-- ==== Ffn.lean ====
abbrev S16384x1024 : Shape := ⟨2, ![16384, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S512x2816 : Shape := ⟨2, ![512, 2816]⟩

abbrev nBuf : Space → Nat
  | .hbm => 12
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S1024x2816, .bf16⟩
  | .hbm, ⟨7, _⟩ => ⟨S1024x2816, .bf16⟩
  | .hbm, ⟨8, _⟩ => ⟨S2816x1024, .bf16⟩
  | .hbm, ⟨9, _⟩ => ⟨S1x1024, .f32⟩
  | .hbm, ⟨10, _⟩ => ⟨S1x1024, .f32⟩
  | .hbm, ⟨11, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FfnRefIdeal.lean ====
abbrev S16384x1024 : Shape := ⟨2, ![16384, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2816 : Shape := ⟨2, ![16384, 2816]⟩

abbrev nBuf : Space → Nat
  | .hbm => 36
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S1x1024, .f32⟩
  | .hbm, ⟨20, _⟩ => ⟨S16384x1024, .f32⟩
  | .hbm, ⟨21, _⟩ => ⟨S16384x1024, .f32⟩
  | .hbm, ⟨22, _⟩ => ⟨S16384x2816, .f32⟩
  | .hbm, ⟨23, _⟩ => ⟨S16384x2816, .f32⟩
  | .hbm, ⟨24, _⟩ => ⟨S16384x2816, .f32⟩
  | .hbm, ⟨25, _⟩ => ⟨S_, .f32⟩
  | .hbm, ⟨26, _⟩ => ⟨S16384x2816, .f32⟩
  | .hbm, ⟨27, _⟩ => ⟨S16384x2816, .f32⟩
  | .hbm, ⟨28, _⟩ => ⟨S_, .f32⟩
  | .hbm, ⟨29, _⟩ => ⟨S16384x2816, .f32⟩
  | .hbm, ⟨30, _⟩ => ⟨S16384x2816, .f32⟩
  | .hbm, ⟨31, _⟩ => ⟨S16384x2816, .f32⟩
  | .hbm, ⟨32, _⟩ => ⟨S16384x2816, .f32⟩
  | .hbm, ⟨33, _⟩ => ⟨S16384x2816, .f32⟩
  | .hbm, ⟨34, _⟩ => ⟨S16384x1024, .f32⟩
  | .hbm, ⟨35, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩

abbrev nD : Nat := 1
abbrev τ : Topo := Topo.v7x

variable {F : FTy → Type} [FloatOps F]
-- ==== FfnFinal.lean ====
abbrev S16384x1024 : Shape := ⟨2, ![16384, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S512x2816 : Shape := ⟨2, ![512, 2816]⟩

abbrev nBuf : Space → Nat
  | .hbm => 12
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S1024x2816, .bf16⟩
  | .hbm, ⟨7, _⟩ => ⟨S1024x2816, .bf16⟩
  | .hbm, ⟨8, _⟩ => ⟨S2816x1024, .bf16⟩
  | .hbm, ⟨9, _⟩ => ⟨S1x1024, .f32⟩
  | .hbm, ⟨10, _⟩ => ⟨S1x1024, .f32⟩
  | .hbm, ⟨11, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FfnFinalIdeal.lean ====
abbrev S16384x1024 : Shape := ⟨2, ![16384, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S512x2816 : Shape := ⟨2, ![512, 2816]⟩

abbrev nBuf : Space → Nat
  | .hbm => 12
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S1024x2816, .bf16⟩
  | .hbm, ⟨7, _⟩ => ⟨S1024x2816, .bf16⟩
  | .hbm, ⟨8, _⟩ => ⟨S2816x1024, .bf16⟩
  | .hbm, ⟨9, _⟩ => ⟨S1x1024, .f32⟩
  | .hbm, ⟨10, _⟩ => ⟨S1x1024, .f32⟩
  | .hbm, ⟨11, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FfnFinalRefIdeal.lean ====
abbrev S16384x1024 : Shape := ⟨2, ![16384, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2816 : Shape := ⟨2, ![16384, 2816]⟩

abbrev nBuf : Space → Nat
  | .hbm => 52
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S1x1024, .f32⟩
  | .hbm, ⟨20, _⟩ => ⟨S16384x1024, .f32⟩
  | .hbm, ⟨21, _⟩ => ⟨S16384x1024, .f32⟩
  | .hbm, ⟨22, _⟩ => ⟨S16384x2816, .f32⟩
  | .hbm, ⟨23, _⟩ => ⟨S16384x2816, .f32⟩
  | .hbm, ⟨24, _⟩ => ⟨S16384x2816, .f32⟩
  | .hbm, ⟨25, _⟩ => ⟨S_, .f32⟩
  | .hbm, ⟨26, _⟩ => ⟨S16384x2816, .f32⟩
  | .hbm, ⟨27, _⟩ => ⟨S16384x2816, .f32⟩
  | .hbm, ⟨28, _⟩ => ⟨S_, .f32⟩
  | .hbm, ⟨29, _⟩ => ⟨S16384x2816, .f32⟩
  | .hbm, ⟨30, _⟩ => ⟨S16384x2816, .f32⟩
  | .hbm, ⟨31, _⟩ => ⟨S16384x2816, .f32⟩
  | .hbm, ⟨32, _⟩ => ⟨S16384x2816, .f32⟩
  | .hbm, ⟨33, _⟩ => ⟨S16384x2816, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S_, .f32⟩
  | .hbm, ⟨38, _⟩ => ⟨S16384, .f32⟩
  | .hbm, ⟨39, _⟩ => ⟨S16384x1, .f32⟩
  | .hbm, ⟨40, _⟩ => ⟨S_, .f32⟩
  | .hbm, ⟨41, _⟩ => ⟨S16384x1, .f32⟩
  | .hbm, ⟨42, _⟩ => ⟨S16384x1, .f32⟩
  | .hbm, ⟨43, _⟩ => ⟨S_, .f32⟩
  | .hbm, ⟨44, _⟩ => ⟨S16384x1, .f32⟩
  | .hbm, ⟨45, _⟩ => ⟨S16384x1, .f32⟩
  | .hbm, ⟨46, _⟩ => ⟨S16384x1, .f32⟩
  | .hbm, ⟨47, _⟩ => ⟨S16384x1024, .f32⟩
  | .hbm, ⟨48, _⟩ => ⟨S16384x1024, .f32⟩
  | .hbm, ⟨49, _⟩ => ⟨S1x1024, .f32⟩
  | .hbm, ⟨50, _⟩ => ⟨S16384x1024, .f32⟩
  | .hbm, ⟨51, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_2 : Ref sig .tc := ⟨.hbm, 37, rfl⟩
abbrev main_v20 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_v23 : Ref sig .tc := ⟨.hbm, 42, rfl⟩
abbrev main_cst_4 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩

abbrev nD : Nat := 1
abbrev τ : Topo := Topo.v7x

variable {F : FTy → Type} [FloatOps F]
-- ==== FfnFinalS.lean ====
abbrev S256x1024 : Shape := ⟨2, ![256, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S256 : Shape := ⟨1, ![256]⟩
abbrev S256x1 : Shape := ⟨2, ![256, 1]⟩
abbrev S256x2816 : Shape := ⟨2, ![256, 2816]⟩

abbrev nBuf : Space → Nat
  | .hbm => 12
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S1024x2816, .bf16⟩
  | .hbm, ⟨7, _⟩ => ⟨S1024x2816, .bf16⟩
  | .hbm, ⟨8, _⟩ => ⟨S2816x1024, .bf16⟩
  | .hbm, ⟨9, _⟩ => ⟨S1x1024, .f32⟩
  | .hbm, ⟨10, _⟩ => ⟨S1x1024, .f32⟩
  | .hbm, ⟨11, _⟩ => ⟨S256x1024, .f32⟩
  | .local _ .vmem, ⟨0, _⟩ => ⟨S256x1024, .f32⟩
  | .local _ .vmem, ⟨1, _⟩ => ⟨S1x1024, .f32⟩
  | .local _ .vmem, ⟨2, _⟩ => ⟨S1024x2816, .bf16⟩
  | .local _ .vmem, ⟨3, _⟩ => ⟨S1024x2816, .bf16⟩
  | .local _ .vmem, ⟨4, _⟩ => ⟨S2816x1024, .bf16⟩
  | .local _ .vmem, ⟨5, _⟩ => ⟨S1x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== FfnFinalSRefIdeal.lean ====
abbrev S256x1024 : Shape := ⟨2, ![256, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S256 : Shape := ⟨1, ![256]⟩
abbrev S256x1 : Shape := ⟨2, ![256, 1]⟩
abbrev S1x1024 : Shape := ⟨2, ![1, 1024]⟩
abbrev S256x2816 : Shape := ⟨2, ![256, 2816]⟩

abbrev nBuf : Space → Nat
  | .hbm => 52
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S256x1024, .f32⟩
  | .hbm, ⟨7, _⟩ => ⟨S_, .f32⟩
  | .hbm, ⟨8, _⟩ => ⟨S256, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S_, .f32⟩
  | .hbm, ⟨14, _⟩ => ⟨S256x1, .f32⟩
  | .hbm, ⟨15, _⟩ => ⟨S256x1, .f32⟩
  | .hbm, ⟨16, _⟩ => ⟨S256x1, .f32⟩
  | .hbm, ⟨17, _⟩ => ⟨S256x1024, .f32⟩
  | .hbm, ⟨18, _⟩ => ⟨S256x1024, .f32⟩
  | .hbm, ⟨19, _⟩ => ⟨S1x1024, .f32⟩
  | .hbm, ⟨20, _⟩ => ⟨S256x1024, .f32⟩
  | .hbm, ⟨21, _⟩ => ⟨S256x1024, .f32⟩
  | .hbm, ⟨22, _⟩ => ⟨S256x2816, .f32⟩
  | .hbm, ⟨23, _⟩ => ⟨S256x2816, .f32⟩
  | .hbm, ⟨24, _⟩ => ⟨S256x2816, .f32⟩
  | .hbm, ⟨25, _⟩ => ⟨S_, .f32⟩
  | .hbm, ⟨26, _⟩ => ⟨S256x2816, .f32⟩
  | .hbm, ⟨27, _⟩ => ⟨S256x2816, .f32⟩
  | .hbm, ⟨28, _⟩ => ⟨S_, .f32⟩
  | .hbm, ⟨29, _⟩ => ⟨S256x2816, .f32⟩
  | .hbm, ⟨30, _⟩ => ⟨S256x2816, .f32⟩
  | .hbm, ⟨31, _⟩ => ⟨S256x2816, .f32⟩
  | .hbm, ⟨32, _⟩ => ⟨S256x2816, .f32⟩
  | .hbm, ⟨33, _⟩ => ⟨S256x2816, .f32⟩
  | .hbm, ⟨34, _⟩ => ⟨S256x1024, .f32⟩
  | .hbm, ⟨35, _⟩ => ⟨S256x1024, .f32⟩
  | .hbm, ⟨36, _⟩ => ⟨S256x1024, .f32⟩
  | .hbm, ⟨37, _⟩ => ⟨S_, .f32⟩
  | .hbm, ⟨38, _⟩ => ⟨S256, .f32⟩
  | .hbm, ⟨39, _⟩ => ⟨S256x1, .f32⟩
  | .hbm, ⟨40, _⟩ => ⟨S_, .f32⟩
  | .hbm, ⟨41, _⟩ => ⟨S256x1, .f32⟩
  | .hbm, ⟨42, _⟩ => ⟨S256x1, .f32⟩
  | .hbm, ⟨43, _⟩ => ⟨S_, .f32⟩
  | .hbm, ⟨44, _⟩ => ⟨S256x1, .f32⟩
  | .hbm, ⟨45, _⟩ => ⟨S256x1, .f32⟩
  | .hbm, ⟨46, _⟩ => ⟨S256x1, .f32⟩
  | .hbm, ⟨47, _⟩ => ⟨S256x1024, .f32⟩
  | .hbm, ⟨48, _⟩ => ⟨S256x1024, .f32⟩
  | .hbm, ⟨49, _⟩ => ⟨S1x1024, .f32⟩
  | .hbm, ⟨50, _⟩ => ⟨S256x1024, .f32⟩
  | .hbm, ⟨51, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_2 : Ref sig .tc := ⟨.hbm, 37, rfl⟩
abbrev main_v20 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_v23 : Ref sig .tc := ⟨.hbm, 42, rfl⟩
abbrev main_cst_4 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩

abbrev nD : Nat := 1
abbrev τ : Topo := Topo.v7x

variable {F : FTy → Type} [FloatOps F]
-- ==== Out.lean ====
abbrev S16384x1024 : Shape := ⟨2, ![16384, 1024]⟩
abbrev S1024x1024 : Shape := ⟨2, ![1024, 1024]⟩
abbrev S512x1024 : Shape := ⟨2, ![512, 1024]⟩

abbrev nBuf : Space → Nat
  | .hbm => 5
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S16384x1024, .f32⟩
  | .hbm, ⟨3, _⟩ => ⟨S1024x1024, .bf16⟩
  | .hbm, ⟨4, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== OutRefIdeal.lean ====
abbrev S16384x1024 : Shape := ⟨2, ![16384, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S16384x1024, .f32⟩
  | .hbm, ⟨3, _⟩ => ⟨S16384x1024, .f32⟩
  | .hbm, ⟨4, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Merge.lean ====
abbrev S16384x256 : Shape := ⟨2, ![16384, 256]⟩
abbrev S16384x512 : Shape := ⟨2, ![16384, 512]⟩
abbrev S16384x4608 : Shape := ⟨2, ![16384, 4608]⟩
abbrev S512 : Shape := ⟨1, ![512]⟩
abbrev S768x1024 : Shape := ⟨2, ![768, 1024]⟩
abbrev S16384x1024 : Shape := ⟨2, ![16384, 1024]⟩
abbrev S1x512 : Shape := ⟨2, ![1, 512]⟩
abbrev S512x256 : Shape := ⟨2, ![512, 256]⟩
abbrev S512x512 : Shape := ⟨2, ![512, 512]⟩
abbrev S512x1024 : Shape := ⟨2, ![512, 1024]⟩
abbrev S512x128 : Shape := ⟨2, ![512, 128]⟩
abbrev S512x1 : Shape := ⟨2, ![512, 1]⟩
abbrev S256x1024 : Shape := ⟨2, ![256, 1024]⟩

abbrev nBuf : Space → Nat
  | .hbm => 14
  | .vmem => 22
  | .smem => 0
  | _ => 0

abbrev bufTy : (tb : Table) → Fin (tcTables nBuf tb) → BufTy
  | .hbm, ⟨0, _⟩ => ⟨S16384x256, .f32⟩
  | .hbm, ⟨1, _⟩ => ⟨S16384x256, .f32⟩
  | .hbm, ⟨2, _⟩ => ⟨S16384x256, .f32⟩
  | .hbm, ⟨3, _⟩ => ⟨S16384x256, .f32⟩
  | .hbm, ⟨4, _⟩ => ⟨S16384x256, .f32⟩
  | .hbm, ⟨5, _⟩ => ⟨S16384x256, .f32⟩
  | .hbm, ⟨6, _⟩ => ⟨S16384x512, .f32⟩
  | .hbm, ⟨7, _⟩ => ⟨S16384x4608, .f32⟩
  | .hbm, ⟨8, _⟩ => ⟨S512, .f32⟩
  | .hbm, ⟨9, _⟩ => ⟨S768x1024, .f32⟩
  | .hbm, ⟨10, _⟩ => ⟨S16384x1024, .f32⟩
  | .hbm, ⟨11, _⟩ => ⟨S768x1024, .bf16⟩
  | .hbm, ⟨12, _⟩ => ⟨S1x512, .f32⟩
  | .hbm, ⟨13, _⟩ => ⟨S16384x1024, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S1x512, .f32⟩
  | .local _ .vmem, ⟨17, _⟩ => ⟨S768x1024, .bf16⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S768x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== MergeRefIdeal.lean ====
abbrev S16384x256 : Shape := ⟨2, ![16384, 256]⟩
abbrev S16384x512 : Shape := ⟨2, ![16384, 512]⟩
abbrev S16384x4608 : Shape := ⟨2, ![16384, 4608]⟩
abbrev S512 : Shape := ⟨1, ![512]⟩
abbrev S768x1024 : Shape := ⟨2, ![768, 1024]⟩
abbrev S16384x1024 : Shape := ⟨2, ![16384, 1024]⟩
abbrev S16384x4x64 : Shape := ⟨3, ![16384, 4, 64]⟩
abbrev S1x16384x4x64 : Shape := ⟨4, ![1, 16384, 4, 64]⟩
abbrev S3x16384x4x64 : Shape := ⟨4, ![3, 16384, 4, 64]⟩
abbrev S_ : Shape := ⟨0, ![]⟩
abbrev S16384x4x128 : Shape := ⟨3, ![16384, 4, 128]⟩
abbrev S16384x4 : Shape := ⟨2, ![16384, 4]⟩
abbrev S16384x4x1 : Shape := ⟨3, ![16384, 4, 1]⟩
abbrev S4x128 : Shape := ⟨2, ![4, 128]⟩
abbrev S1x4x128 : Shape := ⟨3, ![1, 4, 128]⟩
abbrev S16384x768 : Shape := ⟨2, ![16384, 768]⟩

abbrev nBuf : Space → Nat
  | .hbm => 75
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S16384x256, .f32⟩
  | .hbm, ⟨2, _⟩ => ⟨S16384x256, .f32⟩
  | .hbm, ⟨3, _⟩ => ⟨S16384x256, .f32⟩
  | .hbm, ⟨4, _⟩ => ⟨S16384x256, .f32⟩
  | .hbm, ⟨5, _⟩ => ⟨S16384x256, .f32⟩
  | .hbm, ⟨6, _⟩ => ⟨S16384x512, .f32⟩
  | .hbm, ⟨7, _⟩ => ⟨S16384x4608, .f32⟩
  | .hbm, ⟨8, _⟩ => ⟨S512, .f32⟩
  | .hbm, ⟨9, _⟩ => ⟨S768x1024, .f32⟩
  | .hbm, ⟨10, _⟩ => ⟨S16384x1024, .f32⟩
  | .hbm, ⟨11, _⟩ => ⟨S16384x4x64, .f32⟩
  | .hbm, ⟨12, _⟩ => ⟨S16384x4x64, .f32⟩
  | .hbm, ⟨13, _⟩ => ⟨S16384x4x64, .f32⟩
  | .hbm, ⟨14, _⟩ => ⟨S1x16384x4x64, .f32⟩
  | .hbm, ⟨15, _⟩ => ⟨S1x16384x4x64, .f32⟩
  | .hbm, ⟨16, _⟩ => ⟨S1x16384x4x64, .f32⟩
  | .hbm, ⟨17, _⟩ => ⟨S3x16384x4x64, .f32⟩
  | .hbm, ⟨18, _⟩ => ⟨S_, .f32⟩
  | .hbm, ⟨19, _⟩ => ⟨S16384x4x64, .f32⟩
  | .hbm, ⟨20, _⟩ => ⟨S_, .f32⟩
  | .hbm, ⟨21, _⟩ => ⟨S16384x4x64, .f32⟩
  | .hbm, ⟨22, _⟩ => ⟨S16384x4x64, .f32⟩
  | .hbm, ⟨23, _⟩ => ⟨S1x16384x4x64, .f32⟩
  | .hbm, ⟨24, _⟩ => ⟨S3x16384x4x64, .f32⟩
  | .hbm, ⟨25, _⟩ => ⟨S3x16384x4x64, .f32⟩
  | .hbm, ⟨26, _⟩ => ⟨S3x16384x4x64, .f32⟩
  | .hbm, ⟨27, _⟩ => ⟨S_, .f32⟩
  | .hbm, ⟨28, _⟩ => ⟨S16384x4x64, .f32⟩
  | .hbm, ⟨29, _⟩ => ⟨S1x16384x4x64, .f32⟩
  | .hbm, ⟨30, _⟩ => ⟨S3x16384x4x64, .f32⟩
  | .hbm, ⟨31, _⟩ => ⟨S3x16384x4x64, .f32⟩
  | .hbm, ⟨32, _⟩ => ⟨S16384x4x64, .f32⟩
  | .hbm, ⟨33, _⟩ => ⟨S16384x4x64, .f32⟩
  | .hbm, ⟨34, _⟩ => ⟨S16384x4x64, .f32⟩
  | .hbm, ⟨35, _⟩ => ⟨S1x16384x4x64, .f32⟩
  | .hbm, ⟨36, _⟩ => ⟨S1x16384x4x64, .f32⟩
  | .hbm, ⟨37, _⟩ => ⟨S1x16384x4x64, .f32⟩
  | .hbm, ⟨38, _⟩ => ⟨S3x16384x4x64, .f32⟩
  | .hbm, ⟨39, _⟩ => ⟨S3x16384x4x64, .f32⟩
  | .hbm, ⟨40, _⟩ => ⟨S_, .f32⟩
  | .hbm, ⟨41, _⟩ => ⟨S16384x4x64, .f32⟩
  | .hbm, ⟨42, _⟩ => ⟨S16384x4x128, .f32⟩
  | .hbm, ⟨43, _⟩ => ⟨S16384x512, .f32⟩
  | .hbm, ⟨44, _⟩ => ⟨S16384x4x128, .f32⟩
  | .hbm, ⟨45, _⟩ => ⟨S_, .f32⟩
  | .hbm, ⟨46, _⟩ => ⟨S16384x4, .f32⟩
  | .hbm, ⟨47, _⟩ => ⟨S16384x4x1, .f32⟩
  | .hbm, ⟨48, _⟩ => ⟨S_, .f32⟩
  | .hbm, ⟨49, _⟩ => ⟨S16384x4x1, .f32⟩
  | .hbm, ⟨50, _⟩ => ⟨S16384x4x1, .f32⟩
  | .hbm, ⟨51, _⟩ => ⟨S_, .f32⟩
  | .hbm, ⟨52, _⟩ => ⟨S16384x4x1, .f32⟩
  | .hbm, ⟨53, _⟩ => ⟨S16384x4x1, .f32⟩
  | .hbm, ⟨54, _⟩ => ⟨S16384x4x1, .f32⟩
  | .hbm, ⟨55, _⟩ => ⟨S16384x4x128, .f32⟩
  | .hbm, ⟨56, _⟩ => ⟨S16384x4x128, .f32⟩
  | .hbm, ⟨57, _⟩ => ⟨S4x128, .f32⟩
  | .hbm, ⟨58, _⟩ => ⟨S1x4x128, .f32⟩
  | .hbm, ⟨59, _⟩ => ⟨S16384x4x128, .f32⟩
  | .hbm, ⟨60, _⟩ => ⟨S16384x4x128, .f32⟩
  | .hbm, ⟨61, _⟩ => ⟨S16384x512, .f32⟩
  | .hbm, ⟨62, _⟩ => ⟨S16384x512, .f32⟩
  | .hbm, ⟨63, _⟩ => ⟨S16384x512, .f32⟩
  | .hbm, ⟨64, _⟩ => ⟨S_, .f32⟩
  | .hbm, ⟨65, _⟩ => ⟨S16384x512, .f32⟩
  | .hbm, ⟨66, _⟩ => ⟨S16384x512, .f32⟩
  | .hbm, ⟨67, _⟩ => ⟨S_, .f32⟩
  | .hbm, ⟨68, _⟩ => ⟨S16384x512, .f32⟩
  | .hbm, ⟨69, _⟩ => ⟨S16384x512, .f32⟩
  | .hbm, ⟨70, _⟩ => ⟨S16384x512, .f32⟩
  | .hbm, ⟨71, _⟩ => ⟨S16384x256, .f32⟩
  | .hbm, ⟨72, _⟩ => ⟨S16384x768, .f32⟩
  | .hbm, ⟨73, _⟩ => ⟨S16384x1024, .f32⟩
  | .hbm, ⟨74, _⟩ => ⟨S16384x1024, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_2 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_3 : Ref sig .tc := ⟨.hbm, 45, rfl⟩
abbrev main_v30 : Ref sig .tc := ⟨.hbm, 46, rfl⟩
abbrev main_v31 : Ref sig .tc := ⟨.hbm, 47, rfl⟩
abbrev main_cst_4 : Ref sig .tc := ⟨.hbm, 48, rfl⟩
abbrev main_v32 : Ref sig .tc := ⟨.hbm, 49, rfl⟩
abbrev main_v33 : Ref sig .tc := ⟨.hbm, 50, rfl⟩
abbrev main_cst_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_6 : Ref sig .tc := ⟨.hbm, 64, rfl⟩
abbrev main_v46 : Ref sig .tc := ⟨.hbm, 65, rfl⟩
abbrev main_v47 : Ref sig .tc := ⟨.hbm, 66, rfl⟩
abbrev main_cst_7 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩

abbrev nD : Nat := 1
abbrev τ : Topo := Topo.v7x

variable {F : FTy → Type} [FloatOps F]
-- ==== Proof.Ffn.Spec.lean ====
/-
  The feed-forward block with its root-mean-square norms, written as sums over the extended reals, entry by entry.
-/
module

public import Idealize.ShloMosaic.PureOps.Ideal
public import Idealize.ShloMosaic.Lib.Pointwise

@[expose] public section

noncomputable section

namespace Cert.Ffn.Spec

open Idealize.ShloMosaic

/-- The reciprocal root of a row's mean square, a millionth added to the mean. -/
def invRms (r : Fin 1024 → EReal) : EReal :=
  Ideal.rsqrt (Ideal.div (∑ k, r k * r k) (Ideal.ofBits .f32 0x44800000#32) + Ideal.ofBits .f32 0x358637BD#32)

/-- Entry `k` of a normed row with gain `g`. -/
def norm (r g : Fin 1024 → EReal) (k : Fin 1024) : EReal := r k * invRms r * g k

/-- A hidden unit of a normed row `n`, from its column `a` of the gate's weights and `b` of the other's. -/
def unit (n a b : Fin 1024 → EReal) : EReal :=
  (∑ k, n k * a k) * Ideal.logistic (∑ k, n k * a k) * ∑ k, n k * b k

/-- Entry `q` of a row after the block: the row plus the hidden units' sum through the last weights. -/
def ffnRow (r g : Fin 1024 → EReal) (a b : Fin 1024 → Fin 2816 → EReal) (w : Fin 2816 → Fin 1024 → EReal) (q : Fin 1024) :
    EReal :=
  r q + ∑ f, unit (norm r g) (fun k => a k f) (fun k => b k f) * w f q

/-- Row `r` of the `p`-th block of 512 rows. -/
def row (p : Fin 32) (r : Fin 512) : Fin 16384 := ⟨p.val * 512 + r.val, by omega⟩

end Cert.Ffn.Spec

end
-- ==== Proof.Proj.Spec.lean ====
/-
  The layer's norm and input projections, entry by entry: a normed row times the weights' columns, the columns of some heads turned by
  the angles of the row's position.
-/
module

public import proofs.«01_k».proof.Proof.Ffn.Spec
public import Idealize.ShloMosaic.Lib.Pipeline.Value
public import Idealize.ShloMosaic.Lib.Pointwise

@[expose] public section

noncomputable section

namespace Cert.Proj

open Idealize.ShloMosaic Cert.Ffn.Spec

/-- A normed row times a column of the weights. -/
def dot (x g w : Fin 1024 → EReal) : EReal := ∑ k, norm x g k * w k

/-- The angle of lane `q`, heads being 64 lanes wide and turned in two halves. -/
def lane (q : ℕ) : Fin 32 := ⟨q % 32, Nat.mod_lt _ (by decide)⟩

/-- Lane `q` of a row `z` of turned heads. -/
def turned (z : ℕ → EReal) (cos sin : Fin 32 → EReal) (q : ℕ) : EReal :=
  if q % 64 < 32 then z q * cos (lane q) - z (q + 32) * sin (lane q)
  else z q * cos (lane q) + z (q - 32) * sin (lane q)

/-- The weights' column `q` of the first layer, in the order the call stores the columns: the three of the mLSTM, the output gate, the
    attention's queries and keys, its values, and the two gates, each filled up with zeros. -/
def colA (w : Fin 1024 → Fin 4360 → EReal) (q : ℕ) (k : Fin 1024) : EReal :=
  if h : q < 1536 then w k ⟨q + 2304, by omega⟩
  else if h : q < 2048 then w k ⟨q + 2312, by omega⟩
  else if h : q < 3584 then w k ⟨q - 2048, by omega⟩
  else if h : q < 4352 then w k ⟨q - 2048, by omega⟩
  else if h : q < 4356 then w k ⟨q - 512, by omega⟩
  else if q < 4480 then 0
  else if h : q < 4484 then w k ⟨q - 636, by omega⟩
  else 0

/-- The weights' column `q` of the second layer, filled up with zeros. -/
def colC (w : Fin 1024 → Fin 1840 → EReal) (q : ℕ) (k : Fin 1024) : EReal :=
  if h : q < 1840 then w k ⟨q, h⟩ else 0

/-- Entry `q` of a row of the first layer's projection. -/
def rowA (x g : Fin 1024 → EReal) (w : Fin 1024 → Fin 4360 → EReal) (cos sin : Fin 32 → EReal) (q : ℕ) : EReal :=
  if 2048 ≤ q ∧ q < 3584 then turned (fun q => dot x g (colA w q)) cos sin q else dot x g (colA w q)

/-- Entry `q` of a row of the second layer's. -/
def rowC (x g : Fin 1024 → EReal) (w : Fin 1024 → Fin 1840 → EReal) (cos sin : Fin 32 → EReal) (q : ℕ) : EReal :=
  if (1280 ≤ q ∧ q < 1408) ∨ (1536 ≤ q ∧ q < 1664) then turned (fun q => dot x g (colC w q)) cos sin q else dot x g (colC w q)

/-- The lane a lane is turned with. -/
def partner (k : Fin 128) : Fin 128 := ⟨if k.val % 64 < 32 then k.val + 32 else k.val - 32, by split <;> omega⟩

/-- A chunk of 128 lanes times the cosines plus its partners times the signed sines is the chunk turned. -/
theorem turned_chunk (z : ℕ → EReal) (cos sin : Fin 32 → EReal) (o : ℕ) (ho : 64 ∣ o) (x a b : Fin 128 → EReal) (k : Fin 128)
    (hx : ∀ k : Fin 128, x k = z (o + k.val)) (ha : a k = cos (lane k.val))
    (hb : b k = if k.val % 64 < 32 then -sin (lane k.val) else sin (lane k.val)) :
    x k * a k + x (partner k) * b k = turned z cos sin (o + k.val) := by
  obtain ⟨c, rfl⟩ := ho
  have hl : lane (64 * c + k.val) = lane k.val := Fin.ext (by show (64 * c + k.val) % 32 = k.val % 32; omega)
  rw [hx, hx, ha, hb]
  unfold turned
  rw [hl]
  by_cases h : k.val % 64 < 32
  · have e : 64 * c + (partner k).val = 64 * c + k.val + 32 := by
      show 64 * c + (if k.val % 64 < 32 then k.val + 32 else k.val - 32) = _
      rw [if_pos h]; omega
    rw [if_pos h, if_pos (by omega), sub_eq_add_neg, mul_neg, e]
  · have e : 64 * c + (partner k).val = 64 * c + k.val - 32 := by
      show 64 * c + (if k.val % 64 < 32 then k.val + 32 else k.val - 32) = _
      rw [if_neg h]; omega
    rw [if_neg h, if_neg (by omega), e]

/-- Whether a lane lies in the first half of its head, as the kernel decides it. -/
theorem first_half (k : Fin 128) (x y : EReal) :
    Scalar.select
      (IntOp.cmpi .slt
        (Scalar.select
          (IntOp.andi
            (IntOp.xori
              (IntOp.cmpi .slt
                (IntOp.remsi .vector (BitVec.ofNat 32 k.val) (Scalar.select (Scalar.cmpi .eq 64#32 0#32) 1#32 64#32)) 0#32)
              (Scalar.cmpi .slt (Scalar.select (Scalar.cmpi .eq 64#32 0#32) 1#32 64#32) 0#32))
            (IntOp.cmpi .ne
              (IntOp.remsi .vector (BitVec.ofNat 32 k.val) (Scalar.select (Scalar.cmpi .eq 64#32 0#32) 1#32 64#32)) 0#32))
          (IntOp.addi
            (IntOp.remsi .vector (BitVec.ofNat 32 k.val) (Scalar.select (Scalar.cmpi .eq 64#32 0#32) 1#32 64#32))
            (Scalar.select (Scalar.cmpi .eq 64#32 0#32) 1#32 64#32))
          (IntOp.remsi .vector (BitVec.ofNat 32 k.val) (Scalar.select (Scalar.cmpi .eq 64#32 0#32) 1#32 64#32)))
        32#32) x y
      = if k.val % 64 < 32 then x else y := by
  fin_cases k <;> rfl

variable {Val : EltTy → Type} [∀ e, Nonempty (Val e)] {e : EltTy} {N W : ℕ} {o : ℕ}

/-- Columns `o` on of a buffer of 512 rows, written last, are what was written … -/
theorem canon_hit (inb : ∀ a : Fin 2, (![0, o] : Fin 2 → ℕ) a + (![512, W] : Fin 2 → ℕ) a ≤ (⟨2, ![512, N]⟩ : Shape).size a)
    (w : (Rect.unit (s := ⟨2, ![512, N]⟩) ![0, o] ![512, W] inb).shape.Idx → Val e) (L : List (View.Piece Val ⟨2, ![512, N]⟩ e))
    (r : Fin 512) (q : Fin N) (k : Fin W) (h : q.val = o + k.val) :
    View.canon ((⟨Rect.unit (s := ⟨2, ![512, N]⟩) ![0, o] ![512, W] inb, w⟩ : View.Piece Val ⟨2, ![512, N]⟩ e) :: L) (ix2 r q)
      = w (ix2 r k) := by
  have e : ix2 r q = (Rect.unit (s := ⟨2, ![512, N]⟩) ![0, o] ![512, W] inb).emb (ix2 r k) :=
    funext (Fin.forall_fin_two.2 ⟨Fin.ext (by show r.val = 0 + 1 * r.val; omega), Fin.ext (by show q.val = o + 1 * k.val; omega)⟩)
  rw [e]
  exact View.canon_cons_emb _ w L (ix2 r k)

/-- … and the other columns as before. -/
theorem canon_miss (inb : ∀ a : Fin 2, (![0, o] : Fin 2 → ℕ) a + (![512, W] : Fin 2 → ℕ) a ≤ (⟨2, ![512, N]⟩ : Shape).size a)
    (w : (Rect.unit (s := ⟨2, ![512, N]⟩) ![0, o] ![512, W] inb).shape.Idx → Val e) (L : List (View.Piece Val ⟨2, ![512, N]⟩ e))
    (r : Fin 512) (q : Fin N) (h : q.val < o ∨ o + W ≤ q.val) :
    View.canon ((⟨Rect.unit (s := ⟨2, ![512, N]⟩) ![0, o] ![512, W] inb, w⟩ : View.Piece Val ⟨2, ![512, N]⟩ e) :: L) (ix2 r q)
      = View.canon L (ix2 r q) := by
  refine View.canon_cons_of_not_mem _ L fun hm => ?_
  have hm' : ix2 r q ∈ (Rect.unit (s := ⟨2, ![512, N]⟩) ![0, o] ![512, W] inb).set := hm
  have h1 := Rect.mem_set_unit.1 hm' (1 : Fin 2)
  have h2 : o ≤ q.val ∧ q.val < o + W := h1
  omega

/-- Columns `o` on, read back. -/
theorem cov {sig : RefSig} {κ : Kind} {sp : Space} (v : View sig κ sp ⟨2, ![512, N]⟩ e) (L : List (View.Piece Val ⟨2, ![512, N]⟩ e))
    (inb : ∀ a : Fin 2, (![0, o] : Fin 2 → ℕ) a + (![512, W] : Fin 2 → ℕ) a ≤ (⟨2, ![512, N]⟩ : Shape).size a)
    (r : Fin 512) (q : Fin N) (k : Fin W) (h : q.val = o + k.val) :
    v.readCov L (Rect.unit (s := ⟨2, ![512, N]⟩) ![0, o] ![512, W] inb).toLoadRect (ix2 r k) = View.canon L (ix2 r q) := by
  rw [View.readCov_eq_canon']
  refine congrArg (View.canon L) (funext (Fin.forall_fin_two.2 ⟨Fin.ext ?_, Fin.ext ?_⟩))
  · show 0 + 1 * r.val = r.val; omega
  · show o + 1 * k.val = q.val; omega

/-- Columns left by chunks of 512 written in turn, one more chunk written. -/
theorem prod_step (inb : ∀ a : Fin 2, (![0, o] : Fin 2 → ℕ) a + (![512, 512] : Fin 2 → ℕ) a ≤ (⟨2, ![512, N]⟩ : Shape).size a)
    (w : (Rect.unit (s := ⟨2, ![512, N]⟩) ![0, o] ![512, 512] inb).shape.Idx → Val e) (L : List (View.Piece Val ⟨2, ![512, N]⟩ e))
    (z : ℕ → Val e) (r : Fin 512) (hL : ∀ q : Fin N, q.val < o → View.canon L (ix2 r q) = z q.val)
    (hw : ∀ k : Fin 512, w (ix2 r k) = z (o + k.val)) (q : Fin N) (hq : q.val < o + 512) :
    View.canon ((⟨Rect.unit (s := ⟨2, ![512, N]⟩) ![0, o] ![512, 512] inb, w⟩ : View.Piece Val ⟨2, ![512, N]⟩ e) :: L) (ix2 r q)
      = z q.val := by
  by_cases h : q.val < o
  · exact (canon_miss inb w L r q (Or.inl h)).trans (hL q h)
  · have hk : q.val = o + (⟨q.val - o, by omega⟩ : Fin 512).val := by show q.val = o + (q.val - o); omega
    rw [canon_hit inb w L r q ⟨q.val - o, by omega⟩ hk, hw, ← hk]

/-- Columns some of which are turned, one more chunk of 128 read back, turned and written. -/
theorem turn_step {sig : RefSig} {κ : Kind} {sp : Space} (v : View sig κ sp ⟨2, ![512, N]⟩ .f32) (o : ℕ) (ho : 64 ∣ o)
    (inb : ∀ a : Fin 2, (![0, o] : Fin 2 → ℕ) a + (![512, 128] : Fin 2 → ℕ) a ≤ (⟨2, ![512, N]⟩ : Shape).size a)
    (pay : Vec Ideal ⟨2, ![512, 128]⟩ .f32) (a b : Vec Ideal ⟨2, ![512, 128]⟩ .f32)
    (L : List (View.Piece (Elt Ideal) ⟨2, ![512, N]⟩ .f32)) (z : ℕ → EReal) (cos sin : Fin 32 → EReal) (P Q : ℕ → Prop)
    [DecidablePred P] [DecidablePred Q] (r : Fin 512)
    (hp : ∀ k : Fin 128, pay (ix2 r k)
      = v.readCov L (Rect.unit (s := ⟨2, ![512, N]⟩) ![0, o] ![512, 128] inb).toLoadRect (ix2 r k) * a (ix2 r k)
        + v.readCov L (Rect.unit (s := ⟨2, ![512, N]⟩) ![0, o] ![512, 128] inb).toLoadRect (ix2 r (partner k)) * b (ix2 r k))
    (ha : ∀ k : Fin 128, a (ix2 r k) = cos (lane k.val))
    (hb : ∀ k : Fin 128, b (ix2 r k) = if k.val % 64 < 32 then -sin (lane k.val) else sin (lane k.val))
    (hP : ∀ k : Fin 128, ¬P (o + k.val)) (hN : o + 128 ≤ N) (hQ : ∀ q, Q q ↔ P q ∨ (o ≤ q ∧ q < o + 128))
    (hL : ∀ q : Fin N, View.canon L (ix2 r q) = if P q.val then turned z cos sin q.val else z q.val) (q : Fin N) :
    View.canon ((⟨Rect.unit (s := ⟨2, ![512, N]⟩) ![0, o] ![512, 128] inb, pay⟩ : View.Piece (Elt Ideal) ⟨2, ![512, N]⟩ .f32) :: L)
      (ix2 r q) = if Q q.val then turned z cos sin q.val else z q.val := by
  by_cases h : o ≤ q.val ∧ q.val < o + 128
  · have hk : q.val = o + (⟨q.val - o, by omega⟩ : Fin 128).val := by show q.val = o + (q.val - o); omega
    have hx : ∀ k : Fin 128, v.readCov L (Rect.unit (s := ⟨2, ![512, N]⟩) ![0, o] ![512, 128] inb).toLoadRect (ix2 r k) = z (o + k.val) :=
      fun k => by
        rw [cov v L inb r ⟨o + k.val, by omega⟩ k rfl, hL]
        exact if_neg (hP k)
    rw [canon_hit inb pay L r q ⟨q.val - o, by omega⟩ hk, if_pos ((hQ _).2 (Or.inr h)), hp]
    exact (turned_chunk z cos sin o ho (fun k => v.readCov L (Rect.unit (s := ⟨2, ![512, N]⟩) ![0, o] ![512, 128] inb).toLoadRect (ix2 r k))
       (fun k => a (ix2 r k)) (fun k => b (ix2 r k)) _ hx (ha _)
      (hb _)).trans (congrArg (turned z cos sin) hk.symm)
  · rw [canon_miss inb pay L r q (by omega), hL]
    refine if_congr ?_ rfl rfl
    rw [hQ]
    exact ⟨Or.inl, fun t => t.resolve_right h⟩

end Cert.Proj

end
-- ==== Proof.Proj.Weights.lean ====
/-
  The weights of the first of the two layers in the order they are stored, read column by column.
-/
module

public import proofs.«01_k».proof.Proof.Proj.Spec
public import proofs.«01_k».proof.Proof.Gen.ProjAIdeal.Value
public import Idealize.ShloMosaic.Lib.Pipeline.Value
public import Idealize.ShloMosaic.Lib.Pointwise
public import Idealize.ShloMosaic.Lib.StableHlo.RunClose

@[expose] public section

set_option maxRecDepth 16384

noncomputable section

namespace Cert.ProjAIdeal.RefValue

open Idealize.ShloMosaic Idealize.ShloMosaic.TcCoe Idealize.SL.Sem Cert.ProjAIdeal Cert.ProjAIdeal.Gen Cert.Ffn.Spec Cert.Proj
/-- The number zero, as an integer turned into a float. -/
theorem zero_int : (FloatOps.sitofp (F := Ideal) .f32 (0#32) : EReal) = 0 := by
  show (((0#32 : BitVec 32).toInt : ℝ) : EReal) = 0
  simp

/-- The weights' columns in the order they are stored, as the host lays them out. -/
def weights (z : Vec Ideal S1024x4360 .f32) : Vec Ideal S1024x4608 .f32 :=
  concatenate S1024x4608 1
    [⟨S1024x512, extractStridedSlice S1024x512 ![0, 2304] z slices_S1024x4360_S1024x512_0_2304⟩,
      ⟨S1024x512, extractStridedSlice S1024x512 ![0, 2816] z slices_S1024x4360_S1024x512_0_2816⟩,
      ⟨S1024x512, extractStridedSlice S1024x512 ![0, 3328] z slices_S1024x4360_S1024x512_0_3328⟩,
      ⟨S1024x512, extractStridedSlice S1024x512 ![0, 3848] z slices_S1024x4360_S1024x512_0_3848⟩,
      ⟨S1024x768, extractStridedSlice S1024x768 ![0, 0] z slices_S1024x4360_S1024x768_0_0⟩,
      ⟨S1024x768, extractStridedSlice S1024x768 ![0, 768] z slices_S1024x4360_S1024x768_0_768⟩,
      ⟨S1024x768, extractStridedSlice S1024x768 ![0, 1536] z slices_S1024x4360_S1024x768_0_1536⟩,
      ⟨S1024x128, pad S1024x128 ![0, 0] ![0, 124] ![0, 0]
        (extractStridedSlice S1024x4 ![0, 3840] z slices_S1024x4360_S1024x4_0_3840) (sitofp (F := Ideal) .f32 (constantI S_ 32 0#32))
        pads_S1024x4_S1024x128_000_01240 h_S_⟩,
      ⟨S1024x128, pad S1024x128 ![0, 0] ![0, 124] ![0, 0]
        (extractStridedSlice S1024x4 ![0, 3844] z slices_S1024x4360_S1024x4_0_3844) (sitofp (F := Ideal) .f32 (constantI S_ 32 0#32))
        pads_S1024x4_S1024x128_000_01240 h_S_⟩]
    concatenates_S1024x512_S1024x512_S1024x512_S1024x512_S1024x768_S1024x768_S1024x768_S1024x128_S1024x128_S1024x4608_d1

set_option maxHeartbeats 4000000 in
/-- Read column by column. -/
theorem weights_apply (z : Vec Ideal S1024x4360 .f32) (k : Fin 1024) (q : Fin 4608) :
    weights z (ix2 k q) = colA (fun k f => z (ix2 k f)) q.val k := by
  obtain ⟨y, hy⟩ : ∃ y : ℕ → EReal, ∀ (n : ℕ) (h : n < 4360), z (ix2 k ⟨n, h⟩) = y n :=
    ⟨fun n => if h : n < 4360 then z (ix2 k ⟨n, h⟩) else 0, fun n h => by dsimp only; rw [dif_pos h]⟩
  have hq := q.isLt
  unfold weights
  pointwise [pad_apply]
  unfold colA
  simp only [zero_int, hy, dite_eq_ite]
  clear hy
  generalize q.val = n at hq ⊢
  obtain h | h | h | h | h | h | h | h | h | h | h : (0 ≤ n ∧ n < 512) ∨ (512 ≤ n ∧ n < 1024) ∨ (1024 ≤ n ∧ n < 1536) ∨ (1536 ≤ n ∧ n < 2048) ∨ (2048 ≤ n ∧ n < 2816) ∨ (2816 ≤ n ∧ n < 3584) ∨ (3584 ≤ n ∧ n < 4352) ∨ (4352 ≤ n ∧ n < 4356) ∨ (4356 ≤ n ∧ n < 4480) ∨ (4480 ≤ n ∧ n < 4484) ∨ (4484 ≤ n ∧ n < 4608) := by omega
  · rw [if_pos (by omega), if_pos (by omega)]
    exact congrArg y (by omega)
  · rw [if_neg (by omega), if_pos (by omega), if_pos (by omega)]
    exact congrArg y (by omega)
  · rw [if_neg (by omega), if_neg (by omega), if_pos (by omega), if_pos (by omega)]
    exact congrArg y (by omega)
  · rw [if_neg (by omega), if_neg (by omega), if_neg (by omega), if_pos (by omega), if_neg (by omega), if_pos (by omega)]
    exact congrArg y (by omega)
  · rw [if_neg (by omega), if_neg (by omega), if_neg (by omega), if_neg (by omega), if_pos (by omega), if_neg (by omega), if_neg (by omega), if_pos (by omega)]
    exact congrArg y (by omega)
  · rw [if_neg (by omega), if_neg (by omega), if_neg (by omega), if_neg (by omega), if_neg (by omega), if_pos (by omega), if_neg (by omega), if_neg (by omega), if_pos (by omega)]
    exact congrArg y (by omega)
  · rw [if_neg (by omega), if_neg (by omega), if_neg (by omega), if_neg (by omega), if_neg (by omega), if_neg (by omega), if_pos (by omega), if_neg (by omega), if_neg (by omega), if_neg (by omega), if_pos (by omega)]
    exact congrArg y (by omega)
  · rw [if_neg (by omega), if_neg (by omega), if_neg (by omega), if_neg (by omega), if_neg (by omega), if_neg (by omega), if_neg (by omega), if_pos (by omega), if_pos (by omega), if_neg (by omega), if_neg (by omega), if_neg (by omega), if_neg (by omega), if_pos (by omega)]
    exact congrArg y (by omega)
  · rw [if_neg (by omega), if_neg (by omega), if_neg (by omega), if_neg (by omega), if_neg (by omega), if_neg (by omega), if_neg (by omega), if_pos (by omega), if_neg (by omega), if_neg (by omega), if_neg (by omega), if_neg (by omega), if_neg (by omega), if_neg (by omega), if_pos (by omega)]
  · rw [if_neg (by omega), if_neg (by omega), if_neg (by omega), if_neg (by omega), if_neg (by omega), if_neg (by omega), if_neg (by omega), if_neg (by omega), if_pos (by omega), if_neg (by omega), if_neg (by omega), if_neg (by omega), if_neg (by omega), if_neg (by omega), if_neg (by omega), if_pos (by omega)]
    exact congrArg y (by omega)
  · rw [if_neg (by omega), if_neg (by omega), if_neg (by omega), if_neg (by omega), if_neg (by omega), if_neg (by omega), if_neg (by omega), if_neg (by omega), if_neg (by omega), if_neg (by omega), if_neg (by omega), if_neg (by omega), if_neg (by omega), if_neg (by omega), if_neg (by omega), if_neg (by omega)]

end Cert.ProjAIdeal.RefValue
-- ==== Proof.Proj.KernelA.lean ====
/-
  The norm and the projections of the first of the two layers: the kernel's result array, read index by index, is the row of `Proj/Spec`.
-/
module

public import proofs.«01_k».proof.Proof.Proj.Weights
public import proofs.«01_k».proof.Proof.Gen.ProjAIdeal.Value
public import Idealize.ShloMosaic.Lib.Pipeline.Value
public import Idealize.ShloMosaic.Lib.Pointwise
public import Idealize.ShloMosaic.Lib.StableHlo.RunClose

@[expose] public section

set_option maxRecDepth 16384

noncomputable section

namespace Cert.ProjAIdeal.RefValue

open Idealize.ShloMosaic Idealize.ShloMosaic.TcCoe Idealize.SL.Sem Cert.ProjAIdeal Cert.ProjAIdeal.Gen Cert.Ffn.Spec Cert.Proj
open Idealize.ShloMosaic.Pipeline (Dat)

/-- A chunk of the product. -/
theorem prod_apply (x : Vec Ideal S512x1024 .f32) (g : Vec Ideal S1x1024 .f32) (w : Vec Ideal S1024x512 .bf16) (r k : Fin 512) :
    k0_pay3 x g w (ix2 r k) = dot (fun k => x (ix2 r k)) (fun k => g (ix2 0 k)) (fun f => w (ix2 f k)) := by
  pointwise [k0_pay3, k0_pay2]
  rfl

/-- The weights of a chunk are their columns of the weights. -/
theorem cols (w : Vec Ideal S1024x4608 .bf16) (o : ℕ)
    (inb : ∀ a : Fin 2, (![0, o] : Fin 2 → ℕ) a + (![1024, 512] : Fin 2 → ℕ) a ≤ (S1024x4608 : Shape).size a) (f : Fin 1024) (k : Fin 512)
    (h : o + k.val < 4608) :
    View.ld w (Rect.unit (s := S1024x4608) ![0, o] ![1024, 512] inb) (ix2 f k) = w (ix2 f ⟨o + k.val, h⟩) := by
  refine congrArg w (funext (Fin.forall_fin_two.2 ⟨Fin.ext ?_, Fin.ext ?_⟩))
  · show 0 + 1 * f.val = f.val; omega
  · show o + 1 * k.val = o + k.val; omega

/-- So a chunk of the product is its columns of the whole. -/
theorem chunk_apply (x : Vec Ideal S512x1024 .f32) (g : Vec Ideal S1x1024 .f32) (w : Vec Ideal S1024x4608 .bf16)
    (W : ℕ → Fin 1024 → EReal) (hW : ∀ (q : Fin 4608) (f : Fin 1024), w (ix2 f q) = W q.val f) (o : ℕ)
    (inb : ∀ a : Fin 2, (![0, o] : Fin 2 → ℕ) a + (![1024, 512] : Fin 2 → ℕ) a ≤ (S1024x4608 : Shape).size a) (ho : o + 512 ≤ 4608)
    (r k : Fin 512) :
    k0_pay3 x g (View.ld w (Rect.unit (s := S1024x4608) ![0, o] ![1024, 512] inb)) (ix2 r k)
      = dot (fun k => x (ix2 r k)) (fun k => g (ix2 0 k)) (W (o + k.val)) := by
  rw [prod_apply]
  refine congrArg (dot _ _) (funext fun f => ?_)
  rw [cols w o inb f k (by omega)]
  exact hW _ f

/-- A chunk turned: its lanes times the cosines plus their partners times the signed sines. -/
theorem turn_apply (x a b : Vec Ideal S512x128 .f32) (r : Fin 512) (k : Fin 128) :
    k0_pay29 x a b (ix2 r k) = x (ix2 r k) * a (ix2 r k) + x (ix2 r (partner k)) * b (ix2 r k) := by
  pointwise [k0_pay29]
  rw [first_half]
  refine congrArg (fun t => x (ix2 r k) * a (ix2 r k) + t * b (ix2 r k)) ?_
  by_cases h : k.val % 64 < 32
  · rw [if_pos h]
    refine congrArg (fun t => x (ix2 r t)) (Fin.ext ?_)
    show (k.val + 128 - 96) % 128 = if k.val % 64 < 32 then k.val + 32 else k.val - 32
    rw [if_pos h]; omega
  · rw [if_neg h]
    refine congrArg (fun t => x (ix2 r t)) (Fin.ext ?_)
    show (k.val + 128 - 32) % 128 = if k.val % 64 < 32 then k.val + 32 else k.val - 32
    rw [if_neg h]; omega

set_option maxHeartbeats 4000000 in
/-- What the body leaves in its block of the result. -/
theorem out_at (c : Dev nD) (i : grid0.Coords) (a1 : Memref sig .tc .vmem S512x1024 .f32) (h1 : a1.IsWhole)
    (a2 : Memref sig .tc .vmem S1x1024 .f32) (h2 : a2.IsWhole) (a3 : Memref sig .tc .vmem S1024x4608 .bf16) (h3 : a3.IsWhole)
    (a4 : Memref sig .tc .vmem S512x128 .f32) (h4 : a4.IsWhole) (a5 : Memref sig .tc .vmem S512x128 .f32) (h5 : a5.IsWhole)
    (a6 : Memref sig .tc .vmem S512x4608 .f32) (h6 : a6.IsWhole)
    (x0 : Vec Ideal S512x1024 .f32) (x1 : Vec Ideal S1x1024 .f32) (x2 : Vec Ideal S1024x4608 .bf16)
    (x3 x4 : Vec Ideal S512x128 .f32) (w : Fin 1024 → Fin 4360 → EReal) (cos sin : Fin 32 → EReal) (r : Fin 512)
    (hw : ∀ (q : Fin 4608) (f : Fin 1024), x2 (ix2 f q) = colA w q.val f) (ha : ∀ k : Fin 128, x3 (ix2 r k) = cos (lane k.val))
    (hb : ∀ k : Fin 128, x4 (ix2 r k) = if k.val % 64 < 32 then -sin (lane k.val) else sin (lane k.val)) (q : Fin 4608) :
    out0_A_5 c i a1 h1 a2 h2 a3 h3 a4 h4 a5 h5 a6 h6 x0 x1 x2 x3 x4 (ix2 r q)
      = rowA (fun k => x0 (ix2 r k)) (fun k => x1 (ix2 0 k)) w cos sin q.val := by
  have hz' : (![0, 0] : Fin 2 → Nat) = fun _ => 0 := funext fun a => by fin_cases a <;> rfl
  unfold out0_A_5
  rw [View.read_writes_eq_canon _ _ _ (cover0_A_5 c i a1 h1 a2 h2 a3 h3 a4 h4 a5 h5 a6 h6 x0 x1 x2 x3 x4)]
  unfold kernelRun0_A
  dsimp only
  sl_unfold_words
  simp only [View.readAt_eq_ld, h1.read_unread, h2.read_unread, h3.read_unread, h4.read_unread, h5.read_unread,
    View.ld_unit_zero (S := S512x1024) hz', View.ld_unit_zero (S := S1x1024) hz', View.ld_unit_zero (S := S512x128) hz']
  unfold rowA
  refine turn_step a6.view 3456 (by decide) _ _ x3 x4 _ (fun q => dot (fun k => x0 (ix2 r k)) (fun k => x1 (ix2 0 k)) (colA w q)) cos sin
    (fun q => 2048 ≤ q ∧ q < 3456) (fun q => 2048 ≤ q ∧ q < 3584) r (turn_apply _ x3 x4 r) ha hb
    (fun k => by omega) (by decide) (fun q => by omega) (fun q => ?_) q
  refine turn_step a6.view 3328 (by decide) _ _ x3 x4 _ (fun q => dot (fun k => x0 (ix2 r k)) (fun k => x1 (ix2 0 k)) (colA w q)) cos sin
    (fun q => 2048 ≤ q ∧ q < 3328) (fun q => 2048 ≤ q ∧ q < 3456) r (turn_apply _ x3 x4 r) ha hb
    (fun k => by omega) (by decide) (fun q => by omega) (fun q => ?_) q
  refine turn_step a6.view 3200 (by decide) _ _ x3 x4 _ (fun q => dot (fun k => x0 (ix2 r k)) (fun k => x1 (ix2 0 k)) (colA w q)) cos sin
    (fun q => 2048 ≤ q ∧ q < 3200) (fun q => 2048 ≤ q ∧ q < 3328) r (turn_apply _ x3 x4 r) ha hb
    (fun k => by omega) (by decide) (fun q => by omega) (fun q => ?_) q
  refine turn_step a6.view 3072 (by decide) _ _ x3 x4 _ (fun q => dot (fun k => x0 (ix2 r k)) (fun k => x1 (ix2 0 k)) (colA w q)) cos sin
    (fun q => 2048 ≤ q ∧ q < 3072) (fun q => 2048 ≤ q ∧ q < 3200) r (turn_apply _ x3 x4 r) ha hb
    (fun k => by omega) (by decide) (fun q => by omega) (fun q => ?_) q
  refine turn_step a6.view 2944 (by decide) _ _ x3 x4 _ (fun q => dot (fun k => x0 (ix2 r k)) (fun k => x1 (ix2 0 k)) (colA w q)) cos sin
    (fun q => 2048 ≤ q ∧ q < 2944) (fun q => 2048 ≤ q ∧ q < 3072) r (turn_apply _ x3 x4 r) ha hb
    (fun k => by omega) (by decide) (fun q => by omega) (fun q => ?_) q
  refine turn_step a6.view 2816 (by decide) _ _ x3 x4 _ (fun q => dot (fun k => x0 (ix2 r k)) (fun k => x1 (ix2 0 k)) (colA w q)) cos sin
    (fun q => 2048 ≤ q ∧ q < 2816) (fun q => 2048 ≤ q ∧ q < 2944) r (turn_apply _ x3 x4 r) ha hb
    (fun k => by omega) (by decide) (fun q => by omega) (fun q => ?_) q
  refine turn_step a6.view 2688 (by decide) _ _ x3 x4 _ (fun q => dot (fun k => x0 (ix2 r k)) (fun k => x1 (ix2 0 k)) (colA w q)) cos sin
    (fun q => 2048 ≤ q ∧ q < 2688) (fun q => 2048 ≤ q ∧ q < 2816) r (turn_apply _ x3 x4 r) ha hb
    (fun k => by omega) (by decide) (fun q => by omega) (fun q => ?_) q
  refine turn_step a6.view 2560 (by decide) _ _ x3 x4 _ (fun q => dot (fun k => x0 (ix2 r k)) (fun k => x1 (ix2 0 k)) (colA w q)) cos sin
    (fun q => 2048 ≤ q ∧ q < 2560) (fun q => 2048 ≤ q ∧ q < 2688) r (turn_apply _ x3 x4 r) ha hb
    (fun k => by omega) (by decide) (fun q => by omega) (fun q => ?_) q
  refine turn_step a6.view 2432 (by decide) _ _ x3 x4 _ (fun q => dot (fun k => x0 (ix2 r k)) (fun k => x1 (ix2 0 k)) (colA w q)) cos sin
    (fun q => 2048 ≤ q ∧ q < 2432) (fun q => 2048 ≤ q ∧ q < 2560) r (turn_apply _ x3 x4 r) ha hb
    (fun k => by omega) (by decide) (fun q => by omega) (fun q => ?_) q
  refine turn_step a6.view 2304 (by decide) _ _ x3 x4 _ (fun q => dot (fun k => x0 (ix2 r k)) (fun k => x1 (ix2 0 k)) (colA w q)) cos sin
    (fun q => 2048 ≤ q ∧ q < 2304) (fun q => 2048 ≤ q ∧ q < 2432) r (turn_apply _ x3 x4 r) ha hb
    (fun k => by omega) (by decide) (fun q => by omega) (fun q => ?_) q
  refine turn_step a6.view 2176 (by decide) _ _ x3 x4 _ (fun q => dot (fun k => x0 (ix2 r k)) (fun k => x1 (ix2 0 k)) (colA w q)) cos sin
    (fun q => 2048 ≤ q ∧ q < 2176) (fun q => 2048 ≤ q ∧ q < 2304) r (turn_apply _ x3 x4 r) ha hb
    (fun k => by omega) (by decide) (fun q => by omega) (fun q => ?_) q
  refine turn_step a6.view 2048 (by decide) _ _ x3 x4 _ (fun q => dot (fun k => x0 (ix2 r k)) (fun k => x1 (ix2 0 k)) (colA w q)) cos sin
    (fun q => 2048 ≤ q ∧ q < 2048) (fun q => 2048 ≤ q ∧ q < 2176) r (turn_apply _ x3 x4 r) ha hb
    (fun k => by omega) (by decide) (fun q => by omega) (fun q => ?_) q
  rw [if_neg (by omega)]
  have hq : q.val < 4608 := q.isLt
  revert hq
  refine prod_step (Val := Elt Ideal) (e := .f32) (o := 4096) _ _ _ (fun q => dot (fun k => x0 (ix2 r k)) (fun k => x1 (ix2 0 k)) (colA w q)) r (fun q => ?_)
    (fun k => ?_) q
  rotate_left
  · exact chunk_apply x0 x1 x2 (colA w) hw 4096 _ (by decide) r k
  refine prod_step (Val := Elt Ideal) (e := .f32) (o := 3584) _ _ _ (fun q => dot (fun k => x0 (ix2 r k)) (fun k => x1 (ix2 0 k)) (colA w q)) r (fun q => ?_)
    (fun k => ?_) q
  rotate_left
  · exact chunk_apply x0 x1 x2 (colA w) hw 3584 _ (by decide) r k
  refine prod_step (Val := Elt Ideal) (e := .f32) (o := 3072) _ _ _ (fun q => dot (fun k => x0 (ix2 r k)) (fun k => x1 (ix2 0 k)) (colA w q)) r (fun q => ?_)
    (fun k => ?_) q
  rotate_left
  · exact chunk_apply x0 x1 x2 (colA w) hw 3072 _ (by decide) r k
  refine prod_step (Val := Elt Ideal) (e := .f32) (o := 2560) _ _ _ (fun q => dot (fun k => x0 (ix2 r k)) (fun k => x1 (ix2 0 k)) (colA w q)) r (fun q => ?_)
    (fun k => ?_) q
  rotate_left
  · exact chunk_apply x0 x1 x2 (colA w) hw 2560 _ (by decide) r k
  refine prod_step (Val := Elt Ideal) (e := .f32) (o := 2048) _ _ _ (fun q => dot (fun k => x0 (ix2 r k)) (fun k => x1 (ix2 0 k)) (colA w q)) r (fun q => ?_)
    (fun k => ?_) q
  rotate_left
  · exact chunk_apply x0 x1 x2 (colA w) hw 2048 _ (by decide) r k
  refine prod_step (Val := Elt Ideal) (e := .f32) (o := 1536) _ _ _ (fun q => dot (fun k => x0 (ix2 r k)) (fun k => x1 (ix2 0 k)) (colA w q)) r (fun q => ?_)
    (fun k => ?_) q
  rotate_left
  · exact chunk_apply x0 x1 x2 (colA w) hw 1536 _ (by decide) r k
  refine prod_step (Val := Elt Ideal) (e := .f32) (o := 1024) _ _ _ (fun q => dot (fun k => x0 (ix2 r k)) (fun k => x1 (ix2 0 k)) (colA w q)) r (fun q => ?_)
    (fun k => ?_) q
  rotate_left
  · exact chunk_apply x0 x1 x2 (colA w) hw 1024 _ (by decide) r k
  refine prod_step (Val := Elt Ideal) (e := .f32) (o := 512) _ _ _ (fun q => dot (fun k => x0 (ix2 r k)) (fun k => x1 (ix2 0 k)) (colA w q)) r (fun q => ?_)
    (fun k => ?_) q
  rotate_left
  · exact chunk_apply x0 x1 x2 (colA w) hw 512 _ (by decide) r k
  refine prod_step (Val := Elt Ideal) (e := .f32) (o := 0) _ _ _ (fun q => dot (fun k => x0 (ix2 r k)) (fun k => x1 (ix2 0 k)) (colA w q)) r (fun q => ?_)
    (fun k => ?_) q
  rotate_left
  · exact chunk_apply x0 x1 x2 (colA w) hw 0 _ (by decide) r k
  exact fun h => absurd h (Nat.not_lt_zero _)

variable (m : (ℓ : Loc nD τ sig) → Buf (Elt Ideal) ℓ) (ρ : Dev nD → PrngReg)

/-- The input, the gain, the weights and the angles' cosines and sines the run is launched with, as functions of their coordinates. -/
abbrev inX (c : Dev nD) : Fin 16384 → Fin 1024 → EReal := fun r k => m ((c : Thread nD τ).loc main_arg0) (ix2 r k)
abbrev inG (c : Dev nD) : Fin 1024 → EReal := fun k => m ((c : Thread nD τ).loc main_arg1) (ix1 k)
abbrev inW (c : Dev nD) : Fin 1024 → Fin 4360 → EReal := fun k f => m ((c : Thread nD τ).loc main_arg2) (ix2 k f)
abbrev inC (c : Dev nD) : Fin 8192 → Fin 32 → EReal := fun s k => m ((c : Thread nD τ).loc main_arg3) (ix2 s k)
abbrev inS (c : Dev nD) : Fin 8192 → Fin 32 → EReal := fun s k => m ((c : Thread nD τ).loc main_arg4) (ix2 s k)

/-- The position of a row in its sequence. -/
def pos (r : Fin 16384) : Fin 8192 := ⟨r.val % 8192, Nat.mod_lt _ (by decide)⟩

/-- Where each grid point reads and writes. -/
theorem idx_facts : ∀ t : Fin cfg0.N,
    (win0_0.index t 0 = t.val ∧ win0_0.index t 1 = 0) ∧ (win0_1.index t 0 = 0 ∧ win0_1.index t 1 = 0)
    ∧ (win0_2.index t 0 = 0 ∧ win0_2.index t 1 = 0) ∧ (win0_3.index t 0 = t.val ∧ win0_3.index t 1 = 0)
    ∧ (win0_4.index t 0 = t.val ∧ win0_4.index t 1 = 0) ∧ (win0_5.index t 0 = t.val ∧ win0_5.index t 1 = 0) :=
  (by decide +kernel : ∀ t : Fin grid0.N, _)

theorem arr_g (c : Dev nD) (k : Fin 1024) : V m c main_v25 (ix2 0 k) = inG m c k := by
  have e : V m c main_v25 = shapeCast S1x1024 (m ((c : Thread nD τ).loc main_arg1)) shapeCasts_S1024_S1x1024 := by
    unfold_abbrev_sides
    simp only [hostOps0, hostOps0_1, hostOps0_2, hostOps0_3, hostOps0_4, List.flatten_cons, List.flatten_nil, List.append_nil, List.cons_append, List.nil_append]
    after_results; rfl
  rw [e]
  show _ = m ((c : Thread nD τ).loc main_arg1) (ix1 k)
  generalize m ((c : Thread nD τ).loc main_arg1) = z
  pointwise []

/-- The cosines' table: the angles of the row's position, over and over. -/
theorem arr_c (c : Dev nD) (r : Fin 16384) (k : Fin 128) : V m c main_v8 (ix2 r k) = inC m c (pos r) (lane k.val) := by
  unfold_abbrev_sides
  simp only [hostOps0, hostOps0_1, hostOps0_2, hostOps0_3, hostOps0_4, List.flatten_cons, List.flatten_nil, List.append_nil, List.cons_append, List.nil_append]
  after_results
  show _ = m ((c : Thread nD τ).loc main_arg3) (ix2 (pos r) (lane k.val))
  generalize m ((c : Thread nD τ).loc main_arg3) = z
  pointwise []
  rfl

/-- The sines' table, as the host lays it out. -/
def sines (z : Vec Ideal S8192x32 .f32) : Vec Ideal S16384x128 .f32 :=
  shapeCast S16384x128 (broadcastInDim S2x8192x1x128 ![0, 1, 2, 3] bcast_S1x8192x1x128_S2x8192x1x128_0_1_2_3
    (shapeCast S1x8192x1x128
      (concatenate S8192x128 1 [⟨S8192x32, Host.negf (F := Ideal) (φ := .f32) z⟩, ⟨S8192x32, z⟩, ⟨S8192x32, Host.negf (F := Ideal) (φ := .f32) z⟩, ⟨S8192x32, z⟩]
        concatenates_S8192x32_S8192x32_S8192x32_S8192x32_S8192x128_d1)
      shapeCasts_S8192x128_S1x8192x1x128)) shapeCasts_S2x8192x1x128_S16384x128

/-- Negated for the first half of each head. -/
theorem sines_apply (z : Vec Ideal S8192x32 .f32) (r : Fin 16384) (k : Fin 128) :
    sines z (ix2 r k)
      = if k.val % 64 < 32 then @Neg.neg EReal _ (z (ix2 (pos r) (lane k.val))) else z (ix2 (pos r) (lane k.val)) := by
  have hk := k.isLt
  unfold sines
  pointwise []
  by_cases c1 : k.val < 32
  · refine (dif_pos c1).trans (Eq.trans ?_ (if_pos (by omega)).symm)
    exact congrArg (fun t => @Neg.neg EReal _ (z (ix2 (pos r) t))) (Fin.ext (by show k.val = k.val % 32; omega))
  · refine (dif_neg c1).trans ?_
    by_cases c2 : k.val - 32 < 32
    · refine (dif_pos c2).trans (Eq.trans ?_ (if_neg (by omega)).symm)
      exact congrArg (fun t => z (ix2 (pos r) t)) (Fin.ext (by show k.val - 32 = k.val % 32; omega))
    · refine (dif_neg c2).trans ?_
      by_cases c3 : k.val - 32 - 32 < 32
      · refine (dif_pos c3).trans (Eq.trans ?_ (if_pos (by omega)).symm)
        exact congrArg (fun t => @Neg.neg EReal _ (z (ix2 (pos r) t))) (Fin.ext (by show k.val - 32 - 32 = k.val % 32; omega))
      · refine (dif_neg c3).trans (Eq.trans ?_ (if_neg (by omega)).symm)
        exact congrArg (fun t => z (ix2 (pos r) t)) (Fin.ext (by show k.val - 32 - 32 - 32 = k.val % 32; omega))

/-- The sines' table the windows read. -/
theorem arr_s (c : Dev nD) (r : Fin 16384) (k : Fin 128) :
    V m c main_v11 (ix2 r k) = if k.val % 64 < 32 then -inS m c (pos r) (lane k.val) else inS m c (pos r) (lane k.val) := by
  have e : V m c main_v11 = sines (m ((c : Thread nD τ).loc main_arg4)) := by
    unfold_abbrev_sides
    simp only [hostOps0, hostOps0_1, hostOps0_2, hostOps0_3, hostOps0_4, List.flatten_cons, List.flatten_nil, List.append_nil, List.cons_append, List.nil_append]
    after_results_entrywise (rounds := 1) []
  rw [e]
  exact sines_apply _ r k

/-- The weights the windows read, a change of float format being the identity here. -/
theorem arr_w (c : Dev nD) (k : Fin 1024) (q : Fin 4608) :
    V m c main_v24 (ix2 k q) = colA (fun k f => m ((c : Thread nD τ).loc main_arg2) (ix2 k f)) q.val k := by
  have e : V m c main_v24 = truncf (F := Ideal) .bf16 (weights (m ((c : Thread nD τ).loc main_arg2))) bitsLt_bf16_f32 := by
    unfold_abbrev_sides
    simp only [hostOps0, hostOps0_1, hostOps0_2, hostOps0_3, hostOps0_4, List.flatten_cons, List.flatten_nil, List.append_nil, List.cons_append,
      List.nil_append]
    after_results_entrywise (rounds := 1) []
  rw [e]
  exact weights_apply _ k q

/-- A block of the layout the windows read, at an index of it. -/
theorem read_at {S : Shape} (y : S.Idx → EReal) (i j : S.Idx) (h : ∀ a, (i a).val = (j a).val) : y i = y j :=
  congrArg y (funext fun a => Fin.ext (h a))

/-- The result as one array. -/
def G (c : Dev nD) : S16384x4608.Idx → EReal := fun i =>
  rowA (inX m c (i 0)) (inG m c) (inW m c) (inC m c (pos (i 0))) (inS m c (pos (i 0))) (i 1).val

/-- What a point writes back is its block of the result. -/
theorem flushed_eq (c : Dev nD) (t : Fin cfg0.N) : (dats m 0 c).flushed 5 t = (win0_5.blk t).view.read (Elt Ideal) (G m c) := by
  have hN : t.val < 32 := lt_of_lt_of_eq t.isLt N_0
  obtain ⟨h0, h1, h2, h3, h4, h5⟩ := idx_facts t
  rw [Value.flushed5_A m c t]
  funext j
  rw [View.read_apply]
  obtain ⟨r, q, rfl⟩ : ∃ (r : Fin 512) (q : Fin 4608), j = ix2 r q := ⟨_, _, eq_ix2 j⟩
  have hx : (fun k => iblk m c 0 t (ix2 r k)) = inX m c (row ⟨t.val, hN⟩ r) := by
    funext k
    unfold iblk
    rw [View.read_apply]
    refine Eq.trans ?_ (congrFun (V_main_arg0 m c) (ix2 (row ⟨t.val, hN⟩ r) k))
    refine read_at (V m c main_arg0) _ _ (Fin.forall_fin_two.2 ⟨?_, ?_⟩)
    · show win0_0.index t 0 * 512 + 1 * r.val = t.val * 512 + r.val; omega
    · show win0_0.index t 1 * 1024 + 1 * k.val = k.val; omega
  have hg : (fun k => iblk m c 1 t (ix2 0 k)) = inG m c := by
    funext k
    unfold iblk
    rw [View.read_apply]
    refine Eq.trans ?_ (arr_g m c k)
    refine read_at (V m c main_v25) _ _ (Fin.forall_fin_two.2 ⟨?_, ?_⟩)
    · show win0_1.index t 0 * 1 + 1 * 0 = 0; omega
    · show win0_1.index t 1 * 1024 + 1 * k.val = k.val; omega
  have hw : ∀ (q : Fin 4608) (f : Fin 1024), iblk m c 2 t (ix2 f q) = colA (inW m c) q.val f := fun q f => by
    unfold iblk
    rw [View.read_apply]
    refine Eq.trans ?_ (arr_w m c f q)
    refine read_at (V m c main_v24) _ _ (Fin.forall_fin_two.2 ⟨?_, ?_⟩)
    · show win0_2.index t 0 * 1024 + 1 * f.val = f.val; omega
    · show win0_2.index t 1 * 4608 + 1 * q.val = q.val; omega
  have ha : ∀ k : Fin 128, iblk m c 3 t (ix2 r k) = inC m c (pos (row ⟨t.val, hN⟩ r)) (lane k.val) := fun k => by
    unfold iblk
    rw [View.read_apply]
    refine Eq.trans ?_ (arr_c m c (row ⟨t.val, hN⟩ r) k)
    refine read_at (V m c main_v8) _ _ (Fin.forall_fin_two.2 ⟨?_, ?_⟩)
    · show win0_3.index t 0 * 512 + 1 * r.val = t.val * 512 + r.val; omega
    · show win0_3.index t 1 * 128 + 1 * k.val = k.val; omega
  have hb : ∀ k : Fin 128, iblk m c 4 t (ix2 r k)
      = if k.val % 64 < 32 then -inS m c (pos (row ⟨t.val, hN⟩ r)) (lane k.val) else inS m c (pos (row ⟨t.val, hN⟩ r)) (lane k.val) :=
    fun k => by
      unfold iblk
      rw [View.read_apply]
      refine Eq.trans ?_ (arr_s m c (row ⟨t.val, hN⟩ r) k)
      refine read_at (V m c main_v11) _ _ (Fin.forall_fin_two.2 ⟨?_, ?_⟩)
      · show win0_4.index t 0 * 512 + 1 * r.val = t.val * 512 + r.val; omega
      · show win0_4.index t 1 * 128 + 1 * k.val = k.val; omega
  refine Eq.trans (out_at c _ _ _ _ _ _ _ _ _ _ _ _ _ _ _ _ _ _ (inW m c) (inC m c (pos (row ⟨t.val, hN⟩ r)))
    (inS m c (pos (row ⟨t.val, hN⟩ r))) r hw ha hb q) ?_
  rw [hx, hg]
  refine Eq.trans ?_ (read_at (G m c) (ix2 (row ⟨t.val, hN⟩ r) q) _ (Fin.forall_fin_two.2 ⟨?_, ?_⟩))
  · rfl
  · show t.val * 512 + r.val = win0_5.index t 0 * 512 + 1 * r.val; omega
  · show q.val = win0_5.index t 1 * 4608 + 1 * q.val; omega

/-- Every entry is some point's. -/
theorem cover (i : S16384x4608.Idx) :
    ∃ t : Fin cfg0.N, (cfg0.win 5).flush t = true ∧ i ∈ ((cfg0.win 5).blk t).view.set := by
  have h0 : (i 0).val < 16384 := (i 0).isLt
  have h1 : (i 1).val < 4608 := (i 1).isLt
  have hN : cfg0.N = 32 := N_0
  refine ⟨⟨(i 0).val / 512, by omega⟩, flush0_5 _, ?_⟩
  generalize ht : (⟨(i 0).val / 512, by omega⟩ : Fin cfg0.N) = t
  have hp : t.val = (i 0).val / 512 := by rw [← ht]
  show i ∈ ((View.whole main_v26).slice (win0_5.rect t)).set
  rw [View.set_slice_whole, Rect.mem_set_unit]
  obtain ⟨-, -, -, -, -, h⟩ := idx_facts t
  intro a
  match a with
  | ⟨0, _⟩ => show win0_5.index t 0 * 512 ≤ (i 0).val ∧ (i 0).val < win0_5.index t 0 * 512 + 512; omega
  | ⟨1, _⟩ => show win0_5.index t 1 * 4608 ≤ (i 1).val ∧ (i 1).val < win0_5.index t 1 * 4608 + 4608; omega

/-- The run: the result, and the arguments left as they were. -/
theorem run : θ_run defs (onTc (τ := τ) (main (F := Ideal))) ⟨m, fun _ => 0, ρ⟩ fun r => ∀ c : Dev nD,
      r.2.mem ((c : Thread nD τ).loc main_v26) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c =>
      ⟨(h c).1.trans ((dats m 0 c).arrAt_eq_of_cover 5 (G m c) (fun t _ => flushed_eq m c t) cover), (h c).2⟩)
    (Value.run_blocks m ρ)

end Cert.ProjAIdeal.RefValue

end
-- ==== Proof.Proj.KernelC.lean ====
/-
  The norm and the projections of the second of the two layers: the kernel's result array, read index by index, is the row of `Proj/Spec`.
-/
module

public import proofs.«01_k».proof.Proof.Proj.Spec
public import proofs.«01_k».proof.Proof.Gen.ProjCIdeal.Value
public import Idealize.ShloMosaic.Lib.Pipeline.Value
public import Idealize.ShloMosaic.Lib.Pointwise
public import Idealize.ShloMosaic.Lib.StableHlo.RunClose

@[expose] public section

set_option maxRecDepth 16384

noncomputable section

namespace Cert.ProjCIdeal.RefValue

open Idealize.ShloMosaic Idealize.ShloMosaic.TcCoe Idealize.SL.Sem Cert.ProjCIdeal Cert.ProjCIdeal.Gen Cert.Ffn.Spec Cert.Proj
open Idealize.ShloMosaic.Pipeline (Dat)

/-- A chunk of the product. -/
theorem prod_apply (x : Vec Ideal S512x1024 .f32) (g : Vec Ideal S1x1024 .f32) (w : Vec Ideal S1024x512 .bf16) (r k : Fin 512) :
    k0_pay3 x g w (ix2 r k) = dot (fun k => x (ix2 r k)) (fun k => g (ix2 0 k)) (fun f => w (ix2 f k)) := by
  pointwise [k0_pay3, k0_pay2]
  rfl

/-- The weights of a chunk are their columns of the weights. -/
theorem cols (w : Vec Ideal S1024x2048 .bf16) (o : ℕ)
    (inb : ∀ a : Fin 2, (![0, o] : Fin 2 → ℕ) a + (![1024, 512] : Fin 2 → ℕ) a ≤ (S1024x2048 : Shape).size a) (f : Fin 1024) (k : Fin 512)
    (h : o + k.val < 2048) :
    View.ld w (Rect.unit (s := S1024x2048) ![0, o] ![1024, 512] inb) (ix2 f k) = w (ix2 f ⟨o + k.val, h⟩) := by
  refine congrArg w (funext (Fin.forall_fin_two.2 ⟨Fin.ext ?_, Fin.ext ?_⟩))
  · show 0 + 1 * f.val = f.val; omega
  · show o + 1 * k.val = o + k.val; omega

/-- So a chunk of the product is its columns of the whole. -/
theorem chunk_apply (x : Vec Ideal S512x1024 .f32) (g : Vec Ideal S1x1024 .f32) (w : Vec Ideal S1024x2048 .bf16)
    (W : ℕ → Fin 1024 → EReal) (hW : ∀ (q : Fin 2048) (f : Fin 1024), w (ix2 f q) = W q.val f) (o : ℕ)
    (inb : ∀ a : Fin 2, (![0, o] : Fin 2 → ℕ) a + (![1024, 512] : Fin 2 → ℕ) a ≤ (S1024x2048 : Shape).size a) (ho : o + 512 ≤ 2048)
    (r k : Fin 512) :
    k0_pay3 x g (View.ld w (Rect.unit (s := S1024x2048) ![0, o] ![1024, 512] inb)) (ix2 r k)
      = dot (fun k => x (ix2 r k)) (fun k => g (ix2 0 k)) (W (o + k.val)) := by
  rw [prod_apply]
  refine congrArg (dot _ _) (funext fun f => ?_)
  rw [cols w o inb f k (by omega)]
  exact hW _ f

/-- A chunk turned: its lanes times the cosines plus their partners times the signed sines. -/
theorem turn_apply (x a b : Vec Ideal S512x128 .f32) (r : Fin 512) (k : Fin 128) :
    k0_pay7 x a b (ix2 r k) = x (ix2 r k) * a (ix2 r k) + x (ix2 r (partner k)) * b (ix2 r k) := by
  pointwise [k0_pay7]
  rw [first_half]
  refine congrArg (fun t => x (ix2 r k) * a (ix2 r k) + t * b (ix2 r k)) ?_
  by_cases h : k.val % 64 < 32
  · rw [if_pos h]
    refine congrArg (fun t => x (ix2 r t)) (Fin.ext ?_)
    show (k.val + 128 - 96) % 128 = if k.val % 64 < 32 then k.val + 32 else k.val - 32
    rw [if_pos h]; omega
  · rw [if_neg h]
    refine congrArg (fun t => x (ix2 r t)) (Fin.ext ?_)
    show (k.val + 128 - 32) % 128 = if k.val % 64 < 32 then k.val + 32 else k.val - 32
    rw [if_neg h]; omega

set_option maxHeartbeats 4000000 in
/-- What the body leaves in its block of the result. -/
theorem out_at (c : Dev nD) (i : grid0.Coords) (a1 : Memref sig .tc .vmem S512x1024 .f32) (h1 : a1.IsWhole)
    (a2 : Memref sig .tc .vmem S1x1024 .f32) (h2 : a2.IsWhole) (a3 : Memref sig .tc .vmem S1024x2048 .bf16) (h3 : a3.IsWhole)
    (a4 : Memref sig .tc .vmem S512x128 .f32) (h4 : a4.IsWhole) (a5 : Memref sig .tc .vmem S512x128 .f32) (h5 : a5.IsWhole)
    (a6 : Memref sig .tc .vmem S512x2048 .f32) (h6 : a6.IsWhole)
    (x0 : Vec Ideal S512x1024 .f32) (x1 : Vec Ideal S1x1024 .f32) (x2 : Vec Ideal S1024x2048 .bf16)
    (x3 x4 : Vec Ideal S512x128 .f32) (w : Fin 1024 → Fin 1840 → EReal) (cos sin : Fin 32 → EReal) (r : Fin 512)
    (hw : ∀ (q : Fin 2048) (f : Fin 1024), x2 (ix2 f q) = colC w q.val f) (ha : ∀ k : Fin 128, x3 (ix2 r k) = cos (lane k.val))
    (hb : ∀ k : Fin 128, x4 (ix2 r k) = if k.val % 64 < 32 then -sin (lane k.val) else sin (lane k.val)) (q : Fin 2048) :
    out0_A_5 c i a1 h1 a2 h2 a3 h3 a4 h4 a5 h5 a6 h6 x0 x1 x2 x3 x4 (ix2 r q)
      = rowC (fun k => x0 (ix2 r k)) (fun k => x1 (ix2 0 k)) w cos sin q.val := by
  have hz' : (![0, 0] : Fin 2 → Nat) = fun _ => 0 := funext fun a => by fin_cases a <;> rfl
  unfold out0_A_5
  rw [View.read_writes_eq_canon _ _ _ (cover0_A_5 c i a1 h1 a2 h2 a3 h3 a4 h4 a5 h5 a6 h6 x0 x1 x2 x3 x4)]
  unfold kernelRun0_A
  dsimp only
  sl_unfold_words
  simp only [View.readAt_eq_ld, h1.read_unread, h2.read_unread, h3.read_unread, h4.read_unread, h5.read_unread,
    View.ld_unit_zero (S := S512x1024) hz', View.ld_unit_zero (S := S1x1024) hz', View.ld_unit_zero (S := S512x128) hz']
  unfold rowC
  refine turn_step a6.view 1536 (by decide) _ _ x3 x4 _ (fun q => dot (fun k => x0 (ix2 r k)) (fun k => x1 (ix2 0 k)) (colC w q)) cos sin
    (fun q => 1280 ≤ q ∧ q < 1408) (fun q => (1280 ≤ q ∧ q < 1408) ∨ (1536 ≤ q ∧ q < 1664)) r (turn_apply _ x3 x4 r) ha hb
    (fun k => by omega) (by decide) (fun q => by omega) (fun q => ?_) q
  refine turn_step a6.view 1280 (by decide) _ _ x3 x4 _ (fun q => dot (fun k => x0 (ix2 r k)) (fun k => x1 (ix2 0 k)) (colC w q)) cos sin
    (fun _ => False) (fun q => 1280 ≤ q ∧ q < 1408) r (turn_apply _ x3 x4 r) ha hb
    (fun k => by exact not_false) (by decide) (fun q => by exact ⟨Or.inr, fun h => h.resolve_left not_false⟩) (fun q => ?_) q
  rw [if_neg not_false]
  have hq : q.val < 2048 := q.isLt
  revert hq
  refine prod_step (Val := Elt Ideal) (e := .f32) (o := 1536) _ _ _ (fun q => dot (fun k => x0 (ix2 r k)) (fun k => x1 (ix2 0 k)) (colC w q)) r (fun q => ?_)
    (fun k => ?_) q
  rotate_left
  · exact chunk_apply x0 x1 x2 (colC w) hw 1536 _ (by decide) r k
  refine prod_step (Val := Elt Ideal) (e := .f32) (o := 1024) _ _ _ (fun q => dot (fun k => x0 (ix2 r k)) (fun k => x1 (ix2 0 k)) (colC w q)) r (fun q => ?_)
    (fun k => ?_) q
  rotate_left
  · exact chunk_apply x0 x1 x2 (colC w) hw 1024 _ (by decide) r k
  refine prod_step (Val := Elt Ideal) (e := .f32) (o := 512) _ _ _ (fun q => dot (fun k => x0 (ix2 r k)) (fun k => x1 (ix2 0 k)) (colC w q)) r (fun q => ?_)
    (fun k => ?_) q
  rotate_left
  · exact chunk_apply x0 x1 x2 (colC w) hw 512 _ (by decide) r k
  refine prod_step (Val := Elt Ideal) (e := .f32) (o := 0) _ _ _ (fun q => dot (fun k => x0 (ix2 r k)) (fun k => x1 (ix2 0 k)) (colC w q)) r (fun q => ?_)
    (fun k => ?_) q
  rotate_left
  · exact chunk_apply x0 x1 x2 (colC w) hw 0 _ (by decide) r k
  exact fun h => absurd h (Nat.not_lt_zero _)

variable (m : (ℓ : Loc nD τ sig) → Buf (Elt Ideal) ℓ) (ρ : Dev nD → PrngReg)

/-- The input, the gain, the weights and the angles' cosines and sines the run is launched with, as functions of their coordinates. -/
abbrev inX (c : Dev nD) : Fin 16384 → Fin 1024 → EReal := fun r k => m ((c : Thread nD τ).loc main_arg0) (ix2 r k)
abbrev inG (c : Dev nD) : Fin 1024 → EReal := fun k => m ((c : Thread nD τ).loc main_arg1) (ix1 k)
abbrev inW (c : Dev nD) : Fin 1024 → Fin 1840 → EReal := fun k f => m ((c : Thread nD τ).loc main_arg2) (ix2 k f)
abbrev inC (c : Dev nD) : Fin 8192 → Fin 32 → EReal := fun s k => m ((c : Thread nD τ).loc main_arg3) (ix2 s k)
abbrev inS (c : Dev nD) : Fin 8192 → Fin 32 → EReal := fun s k => m ((c : Thread nD τ).loc main_arg4) (ix2 s k)

/-- The position of a row in its sequence. -/
def pos (r : Fin 16384) : Fin 8192 := ⟨r.val % 8192, Nat.mod_lt _ (by decide)⟩

/-- Where each grid point reads and writes. -/
theorem idx_facts : ∀ t : Fin cfg0.N,
    (win0_0.index t 0 = t.val ∧ win0_0.index t 1 = 0) ∧ (win0_1.index t 0 = 0 ∧ win0_1.index t 1 = 0)
    ∧ (win0_2.index t 0 = 0 ∧ win0_2.index t 1 = 0) ∧ (win0_3.index t 0 = t.val ∧ win0_3.index t 1 = 0)
    ∧ (win0_4.index t 0 = t.val ∧ win0_4.index t 1 = 0) ∧ (win0_5.index t 0 = t.val ∧ win0_5.index t 1 = 0) :=
  (by decide +kernel : ∀ t : Fin grid0.N, _)

theorem arr_g (c : Dev nD) (k : Fin 1024) : V m c main_v14 (ix2 0 k) = inG m c k := by
  have e : V m c main_v14 = shapeCast S1x1024 (m ((c : Thread nD τ).loc main_arg1)) shapeCasts_S1024_S1x1024 := by
    unfold_abbrev_sides
    simp only [hostOps0, hostOps0_1, hostOps0_2, List.flatten_cons, List.flatten_nil, List.append_nil, List.cons_append, List.nil_append]
    after_results; rfl
  rw [e]
  show _ = m ((c : Thread nD τ).loc main_arg1) (ix1 k)
  generalize m ((c : Thread nD τ).loc main_arg1) = z
  pointwise []

/-- The cosines' table: the angles of the row's position, over and over. -/
theorem arr_c (c : Dev nD) (r : Fin 16384) (k : Fin 128) : V m c main_v8 (ix2 r k) = inC m c (pos r) (lane k.val) := by
  unfold_abbrev_sides
  simp only [hostOps0, hostOps0_1, hostOps0_2, List.flatten_cons, List.flatten_nil, List.append_nil, List.cons_append, List.nil_append]
  after_results
  show _ = m ((c : Thread nD τ).loc main_arg3) (ix2 (pos r) (lane k.val))
  generalize m ((c : Thread nD τ).loc main_arg3) = z
  pointwise []
  rfl

/-- The sines' table, as the host lays it out. -/
def sines (z : Vec Ideal S8192x32 .f32) : Vec Ideal S16384x128 .f32 :=
  shapeCast S16384x128 (broadcastInDim S2x8192x1x128 ![0, 1, 2, 3] bcast_S1x8192x1x128_S2x8192x1x128_0_1_2_3
    (shapeCast S1x8192x1x128
      (concatenate S8192x128 1 [⟨S8192x32, Host.negf (F := Ideal) (φ := .f32) z⟩, ⟨S8192x32, z⟩, ⟨S8192x32, Host.negf (F := Ideal) (φ := .f32) z⟩, ⟨S8192x32, z⟩]
        concatenates_S8192x32_S8192x32_S8192x32_S8192x32_S8192x128_d1)
      shapeCasts_S8192x128_S1x8192x1x128)) shapeCasts_S2x8192x1x128_S16384x128

/-- Negated for the first half of each head. -/
theorem sines_apply (z : Vec Ideal S8192x32 .f32) (r : Fin 16384) (k : Fin 128) :
    sines z (ix2 r k)
      = if k.val % 64 < 32 then @Neg.neg EReal _ (z (ix2 (pos r) (lane k.val))) else z (ix2 (pos r) (lane k.val)) := by
  have hk := k.isLt
  unfold sines
  pointwise []
  by_cases c1 : k.val < 32
  · refine (dif_pos c1).trans (Eq.trans ?_ (if_pos (by omega)).symm)
    exact congrArg (fun t => @Neg.neg EReal _ (z (ix2 (pos r) t))) (Fin.ext (by show k.val = k.val % 32; omega))
  · refine (dif_neg c1).trans ?_
    by_cases c2 : k.val - 32 < 32
    · refine (dif_pos c2).trans (Eq.trans ?_ (if_neg (by omega)).symm)
      exact congrArg (fun t => z (ix2 (pos r) t)) (Fin.ext (by show k.val - 32 = k.val % 32; omega))
    · refine (dif_neg c2).trans ?_
      by_cases c3 : k.val - 32 - 32 < 32
      · refine (dif_pos c3).trans (Eq.trans ?_ (if_pos (by omega)).symm)
        exact congrArg (fun t => @Neg.neg EReal _ (z (ix2 (pos r) t))) (Fin.ext (by show k.val - 32 - 32 = k.val % 32; omega))
      · refine (dif_neg c3).trans (Eq.trans ?_ (if_neg (by omega)).symm)
        exact congrArg (fun t => z (ix2 (pos r) t)) (Fin.ext (by show k.val - 32 - 32 - 32 = k.val % 32; omega))

/-- The sines' table the windows read. -/
theorem arr_s (c : Dev nD) (r : Fin 16384) (k : Fin 128) :
    V m c main_v11 (ix2 r k) = if k.val % 64 < 32 then -inS m c (pos r) (lane k.val) else inS m c (pos r) (lane k.val) := by
  have e : V m c main_v11 = sines (m ((c : Thread nD τ).loc main_arg4)) := by
    unfold_abbrev_sides
    simp only [hostOps0, hostOps0_1, hostOps0_2, List.flatten_cons, List.flatten_nil, List.append_nil, List.cons_append, List.nil_append]
    after_results_entrywise (rounds := 1) []
  rw [e]
  exact sines_apply _ r k

/-- The number zero, as an integer turned into a float. -/
theorem zero_int : (FloatOps.sitofp (F := Ideal) .f32 (0#32) : EReal) = 0 := by
  show (((0#32 : BitVec 32).toInt : ℝ) : EReal) = 0
  simp

/-- The weights filled up with zeros, read column by column. -/
theorem pad_z (z : Vec Ideal S1024x1840 .f32) (k : Fin 1024) (q : Fin 2048) :
    pad S1024x2048 ![0, 0] ![0, 208] ![0, 0] z (sitofp (F := Ideal) .f32 (constantI S_ 32 0#32)) pads_S1024x1840_S1024x2048_000_02080 h_S_ (ix2 k q) = colC (fun k f => z (ix2 k f)) q.val k := by
  have hq := q.isLt
  pointwise [pad_apply]
  rw [zero_int]
  rfl

/-- The weights the windows read, a change of float format being the identity here. -/
theorem arr_w (c : Dev nD) (k : Fin 1024) (q : Fin 2048) :
    V m c main_v13 (ix2 k q) = colC (fun k f => m ((c : Thread nD τ).loc main_arg2) (ix2 k f)) q.val k := by
  have e : V m c main_v13 = truncf (F := Ideal) .bf16 (pad S1024x2048 ![0, 0] ![0, 208] ![0, 0] (m ((c : Thread nD τ).loc main_arg2) : Vec Ideal S1024x1840 .f32)
      (sitofp (F := Ideal) .f32 (constantI S_ 32 0#32)) pads_S1024x1840_S1024x2048_000_02080 h_S_) bitsLt_bf16_f32 := by
    unfold_abbrev_sides
    simp only [hostOps0, hostOps0_1, hostOps0_2, List.flatten_cons, List.flatten_nil, List.append_nil, List.cons_append,
      List.nil_append]
    after_results
    rfl
  rw [e]
  exact pad_z _ k q

/-- A block of the layout the windows read, at an index of it. -/
theorem read_at {S : Shape} (y : S.Idx → EReal) (i j : S.Idx) (h : ∀ a, (i a).val = (j a).val) : y i = y j :=
  congrArg y (funext fun a => Fin.ext (h a))

/-- The result as one array. -/
def G (c : Dev nD) : S16384x2048.Idx → EReal := fun i =>
  rowC (inX m c (i 0)) (inG m c) (inW m c) (inC m c (pos (i 0))) (inS m c (pos (i 0))) (i 1).val

/-- What a point writes back is its block of the result. -/
theorem flushed_eq (c : Dev nD) (t : Fin cfg0.N) : (dats m 0 c).flushed 5 t = (win0_5.blk t).view.read (Elt Ideal) (G m c) := by
  have hN : t.val < 32 := lt_of_lt_of_eq t.isLt N_0
  obtain ⟨h0, h1, h2, h3, h4, h5⟩ := idx_facts t
  rw [Value.flushed5_A m c t]
  funext j
  rw [View.read_apply]
  obtain ⟨r, q, rfl⟩ : ∃ (r : Fin 512) (q : Fin 2048), j = ix2 r q := ⟨_, _, eq_ix2 j⟩
  have hx : (fun k => iblk m c 0 t (ix2 r k)) = inX m c (row ⟨t.val, hN⟩ r) := by
    funext k
    unfold iblk
    rw [View.read_apply]
    refine Eq.trans ?_ (congrFun (V_main_arg0 m c) (ix2 (row ⟨t.val, hN⟩ r) k))
    refine read_at (V m c main_arg0) _ _ (Fin.forall_fin_two.2 ⟨?_, ?_⟩)
    · show win0_0.index t 0 * 512 + 1 * r.val = t.val * 512 + r.val; omega
    · show win0_0.index t 1 * 1024 + 1 * k.val = k.val; omega
  have hg : (fun k => iblk m c 1 t (ix2 0 k)) = inG m c := by
    funext k
    unfold iblk
    rw [View.read_apply]
    refine Eq.trans ?_ (arr_g m c k)
    refine read_at (V m c main_v14) _ _ (Fin.forall_fin_two.2 ⟨?_, ?_⟩)
    · show win0_1.index t 0 * 1 + 1 * 0 = 0; omega
    · show win0_1.index t 1 * 1024 + 1 * k.val = k.val; omega
  have hw : ∀ (q : Fin 2048) (f : Fin 1024), iblk m c 2 t (ix2 f q) = colC (inW m c) q.val f := fun q f => by
    unfold iblk
    rw [View.read_apply]
    refine Eq.trans ?_ (arr_w m c f q)
    refine read_at (V m c main_v13) _ _ (Fin.forall_fin_two.2 ⟨?_, ?_⟩)
    · show win0_2.index t 0 * 1024 + 1 * f.val = f.val; omega
    · show win0_2.index t 1 * 2048 + 1 * q.val = q.val; omega
  have ha : ∀ k : Fin 128, iblk m c 3 t (ix2 r k) = inC m c (pos (row ⟨t.val, hN⟩ r)) (lane k.val) := fun k => by
    unfold iblk
    rw [View.read_apply]
    refine Eq.trans ?_ (arr_c m c (row ⟨t.val, hN⟩ r) k)
    refine read_at (V m c main_v8) _ _ (Fin.forall_fin_two.2 ⟨?_, ?_⟩)
    · show win0_3.index t 0 * 512 + 1 * r.val = t.val * 512 + r.val; omega
    · show win0_3.index t 1 * 128 + 1 * k.val = k.val; omega
  have hb : ∀ k : Fin 128, iblk m c 4 t (ix2 r k)
      = if k.val % 64 < 32 then -inS m c (pos (row ⟨t.val, hN⟩ r)) (lane k.val) else inS m c (pos (row ⟨t.val, hN⟩ r)) (lane k.val) :=
    fun k => by
      unfold iblk
      rw [View.read_apply]
      refine Eq.trans ?_ (arr_s m c (row ⟨t.val, hN⟩ r) k)
      refine read_at (V m c main_v11) _ _ (Fin.forall_fin_two.2 ⟨?_, ?_⟩)
      · show win0_4.index t 0 * 512 + 1 * r.val = t.val * 512 + r.val; omega
      · show win0_4.index t 1 * 128 + 1 * k.val = k.val; omega
  refine Eq.trans (out_at c _ _ _ _ _ _ _ _ _ _ _ _ _ _ _ _ _ _ (inW m c) (inC m c (pos (row ⟨t.val, hN⟩ r)))
    (inS m c (pos (row ⟨t.val, hN⟩ r))) r hw ha hb q) ?_
  rw [hx, hg]
  refine Eq.trans ?_ (read_at (G m c) (ix2 (row ⟨t.val, hN⟩ r) q) _ (Fin.forall_fin_two.2 ⟨?_, ?_⟩))
  · rfl
  · show t.val * 512 + r.val = win0_5.index t 0 * 512 + 1 * r.val; omega
  · show q.val = win0_5.index t 1 * 2048 + 1 * q.val; omega

/-- Every entry is some point's. -/
theorem cover (i : S16384x2048.Idx) :
    ∃ t : Fin cfg0.N, (cfg0.win 5).flush t = true ∧ i ∈ ((cfg0.win 5).blk t).view.set := by
  have h0 : (i 0).val < 16384 := (i 0).isLt
  have h1 : (i 1).val < 2048 := (i 1).isLt
  have hN : cfg0.N = 32 := N_0
  refine ⟨⟨(i 0).val / 512, by omega⟩, flush0_5 _, ?_⟩
  generalize ht : (⟨(i 0).val / 512, by omega⟩ : Fin cfg0.N) = t
  have hp : t.val = (i 0).val / 512 := by rw [← ht]
  show i ∈ ((View.whole main_v15).slice (win0_5.rect t)).set
  rw [View.set_slice_whole, Rect.mem_set_unit]
  obtain ⟨-, -, -, -, -, h⟩ := idx_facts t
  intro a
  match a with
  | ⟨0, _⟩ => show win0_5.index t 0 * 512 ≤ (i 0).val ∧ (i 0).val < win0_5.index t 0 * 512 + 512; omega
  | ⟨1, _⟩ => show win0_5.index t 1 * 2048 ≤ (i 1).val ∧ (i 1).val < win0_5.index t 1 * 2048 + 2048; omega

/-- The run: the result, and the arguments left as they were. -/
theorem run : θ_run defs (onTc (τ := τ) (main (F := Ideal))) ⟨m, fun _ => 0, ρ⟩ fun r => ∀ c : Dev nD,
      r.2.mem ((c : Thread nD τ).loc main_v15) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c =>
      ⟨(h c).1.trans ((dats m 0 c).arrAt_eq_of_cover 5 (G m c) (fun t _ => flushed_eq m c t) cover), (h c).2⟩)
    (Value.run_blocks m ρ)

end Cert.ProjCIdeal.RefValue

end
-- ==== Proof.Proj.RefA.lean ====
/-
  The plain norm and projections of the first of the two layers: the result, read index by index, is the row of `Proj/Spec`.
-/
module

public import proofs.«01_k».proof.Proof.Proj.Spec
public import proofs.«01_k».proof.Proof.Gen.ProjARefIdeal.Run
public import proofs.«01_k».proof.Proof.Gen.ProjARefIdeal.Read
public import Idealize.ShloMosaic.Lib.Pointwise

@[expose] public section

set_option maxRecDepth 16384

noncomputable section

namespace Cert.ProjARefIdeal.RefValue

open Idealize.ShloMosaic Idealize.ShloMosaic.TcCoe Cert.ProjARefIdeal Cert.ProjARefIdeal.Read Cert.Ffn.Spec Cert.Proj

variable (x : S16384x1024.Idx → EReal) (g : S1024.Idx → EReal) (w : S1024x4360.Idx → EReal) (cos sin : S8192x32.Idx → EReal)

/-- The normed input. -/
theorem normed (r : Fin 16384) (k : Fin 1024) :
    val_main_v12 (F := Ideal) x g (ix2 r k) = norm (fun k => x (ix2 r k)) (fun k => g (ix1 k)) k := by
  pointwise [val_main_v12, val_main_v11, val_main_v10, val_main_v9, val_main_v8, val_main_v7, val_main_v6, val_main_v5,
    val_main_v4, val_main_v3, val_main_v2, val_main_v1, val_main_v0, val_main_cst, val_main_cst_0, val_main_cst_1]
  rfl

/-- The projection. -/
theorem r13 (r : Fin 16384) (q : Fin 4360) :
    val_main_v13 (F := Ideal) x g w (ix2 r q) = dot (fun k => x (ix2 r k)) (fun k => g (ix1 k)) (fun k => w (ix2 k q)) := by
  have hn := fun k => normed x g r k
  unfold val_main_v13
  generalize val_main_v12 (F := Ideal) x g = n at hn ⊢
  pointwise []
  simp only [hn]
  rfl

/-- A product with nothing. -/
theorem dot_zero (a b : Fin 1024 → EReal) : dot a b (fun _ => 0) = 0 := by
  unfold dot
  simp only [mul_zero, Finset.sum_const_zero]

/-- The position of a row in its sequence. -/
def pos (r : Fin 16384) : Fin 8192 := ⟨r.val % 8192, Nat.mod_lt _ (by decide)⟩
/-- The row of a position of a sequence. -/
def rowOf (b : Fin 2) (s : Fin 8192) : Fin 16384 := ⟨b.val * 8192 + s.val, by omega⟩
/-- A row of the projection, its columns in the order of the result. -/
abbrev zrow (r : Fin 16384) (q : ℕ) : EReal :=
  dot (fun k => x (ix2 r k)) (fun k => g (ix1 k)) (colA (fun k f => w (ix2 k f)) q)

/-- A column of it that is turned. -/
theorem column (r : Fin 16384) (q : ℕ) (p : Fin 4360) (h : 2048 ≤ q) (h' : q < 3584) (e : p.val = q - 2048) :
    val_main_v13 (F := Ideal) x g w (ix2 r p) = zrow x g w r q := by
  refine (r13 x g w r p).trans (congrArg (dot _ _) (funext fun k => ?_))
  unfold colA
  refine Eq.trans ?_ (dif_neg (by omega)).symm
  refine Eq.trans ?_ (dif_neg (by omega)).symm
  refine Eq.trans ?_ (dif_pos h').symm
  exact congrArg (fun t => w (ix2 k t)) (Fin.ext e)

/-- The turned heads' first halves … -/
theorem r26 (b : Fin 2) (s : Fin 8192) (h : Fin 24) (d : Fin 32) :
    val_main_v26 (F := Ideal) x g w cos sin (ix4 b s h d)
      = val_main_v13 (F := Ideal) x g w (ix2 (rowOf b s) ⟨h.val * 64 + d.val, by omega⟩) * cos (ix2 s d)
        - val_main_v13 (F := Ideal) x g w (ix2 (rowOf b s) ⟨h.val * 64 + (32 + d.val), by omega⟩) * sin (ix2 s d) := by
  unfold val_main_v26 val_main_v25 val_main_v24 val_main_v23 val_main_v22 val_main_v21 val_main_v20 val_main_v19 val_main_v18 val_main_v17 val_main_v16 val_main_v15 val_main_v14
  generalize val_main_v13 (F := Ideal) x g w = y
  pointwise []
  rfl

/-- … and second halves. -/
theorem r33 (b : Fin 2) (s : Fin 8192) (h : Fin 24) (d : Fin 32) :
    val_main_v33 (F := Ideal) x g w cos sin (ix4 b s h d)
      = val_main_v13 (F := Ideal) x g w (ix2 (rowOf b s) ⟨h.val * 64 + (32 + d.val), by omega⟩) * cos (ix2 s d)
        + val_main_v13 (F := Ideal) x g w (ix2 (rowOf b s) ⟨h.val * 64 + d.val, by omega⟩) * sin (ix2 s d) := by
  unfold val_main_v33 val_main_v32 val_main_v31 val_main_v30 val_main_v29 val_main_v28 val_main_v27 val_main_v19 val_main_v18 val_main_v17 val_main_v16 val_main_v15 val_main_v14
  generalize val_main_v13 (F := Ideal) x g w = y
  pointwise []
  rfl

/-- The turned columns. -/
theorem r35 (r : Fin 16384) (j : Fin 1536) :
    val_main_v35 (F := Ideal) x g w cos sin (ix2 r j)
      = turned (zrow x g w r) (fun k => cos (ix2 (pos r) k)) (fun k => sin (ix2 (pos r) k)) (2048 + j.val) := by
  unfold val_main_v35 val_main_v34
  have h1 := r26 x g w cos sin
  have h2 := r33 x g w cos sin
  generalize val_main_v26 (F := Ideal) x g w cos sin = y1 at h1 ⊢
  generalize val_main_v33 (F := Ideal) x g w cos sin = y2 at h2 ⊢
  pointwise []
  have hj := j.isLt
  have er : rowOf ⟨r.val / 8192, by omega⟩ (pos r) = r := Fin.ext (by show r.val / 8192 * 8192 + r.val % 8192 = r.val; omega)
  unfold turned
  by_cases hc : j.val % 64 < 32
  · refine (dif_pos hc).trans (Eq.trans ?_ (if_pos (by omega)).symm)
    refine (h1 ⟨r.val / 8192, by omega⟩ (pos r) ⟨j.val / 64, by omega⟩ ⟨j.val % 64, hc⟩).trans ?_
    rw [er, column x g w r (2048 + j.val) _ (by omega) (by omega) (by dsimp only; omega), column x g w r (2048 + j.val + 32) _ (by omega) (by omega) (by dsimp only; omega),
      show lane (2048 + j.val) = ⟨j.val % 64, hc⟩ from Fin.ext (by show (2048 + j.val) % 32 = j.val % 64; omega)]
  · refine (dif_neg hc).trans (Eq.trans ?_ (if_neg (by omega)).symm)
    refine (h2 ⟨r.val / 8192, by omega⟩ (pos r) ⟨j.val / 64, by omega⟩ ⟨j.val % 64 - 32, by omega⟩).trans ?_
    rw [er, column x g w r (2048 + j.val) _ (by omega) (by omega) (by dsimp only; omega), column x g w r (2048 + j.val - 32) _ (by omega) (by omega) (by dsimp only; omega),
      show lane (2048 + j.val) = ⟨j.val % 64 - 32, by omega⟩ from Fin.ext (by show (2048 + j.val) % 32 = j.val % 64 - 32; omega)]

set_option maxHeartbeats 4000000 in
/-- The result. -/
theorem r42 (r : Fin 16384) (q : Fin 4608) :
    val_main_v42 (F := Ideal) x g w cos sin (ix2 r q)
      = rowA (fun k => x (ix2 r k)) (fun k => g (ix1 k)) (fun k f => w (ix2 k f)) (fun k => cos (ix2 (pos r) k))
        (fun k => sin (ix2 (pos r) k)) q.val := by
  have hq := q.isLt
  have hz := fun q => r13 x g w r q
  have h35 := fun j => r35 x g w cos sin r j
  unfold val_main_v42 val_main_v37 val_main_v38 val_main_v39 val_main_v40 val_main_v41 val_main_v36 val_main_cst_2
  generalize val_main_v13 (F := Ideal) x g w = y at hz ⊢
  generalize val_main_v35 (F := Ideal) x g w cos sin = y35 at h35 ⊢
  pointwise []
  unfold rowA
  obtain h | h | h | h | h | h | h | h : (0 ≤ q.val ∧ q.val < 1536) ∨ (1536 ≤ q.val ∧ q.val < 2048) ∨ (2048 ≤ q.val ∧ q.val < 3584) ∨ (3584 ≤ q.val ∧ q.val < 4352) ∨ (4352 ≤ q.val ∧ q.val < 4356) ∨ (4356 ≤ q.val ∧ q.val < 4480) ∨ (4480 ≤ q.val ∧ q.val < 4484) ∨ (4484 ≤ q.val ∧ q.val < 4608) := by omega
  · refine (dif_pos (by omega)).trans ?_
    refine Eq.trans ?_ (if_neg (by omega)).symm
    refine (hz _).trans (congrArg (dot _ _) (funext fun k => ?_))
    unfold colA
    refine Eq.trans ?_ (dif_pos (by omega)).symm
    exact congrArg (fun t => w (ix2 k t)) (Fin.ext (by first | omega | (dsimp only; omega) | dsimp only))
  · refine (dif_neg (by omega)).trans ?_
    refine (dif_pos (by omega)).trans ?_
    refine Eq.trans ?_ (if_neg (by omega)).symm
    refine (hz _).trans (congrArg (dot _ _) (funext fun k => ?_))
    unfold colA
    refine Eq.trans ?_ (dif_neg (by omega)).symm
    refine Eq.trans ?_ (dif_pos (by omega)).symm
    exact congrArg (fun t => w (ix2 k t)) (Fin.ext (by first | omega | (dsimp only; omega) | dsimp only))
  · refine (dif_neg (by omega)).trans ?_
    refine (dif_neg (by omega)).trans ?_
    refine (dif_pos (by omega)).trans ?_
    refine Eq.trans ?_ (if_pos (by omega)).symm
    refine (h35 _).trans (congrArg (turned _ _ _) ?_)
    dsimp only
    omega
  · refine (dif_neg (by omega)).trans ?_
    refine (dif_neg (by omega)).trans ?_
    refine (dif_neg (by omega)).trans ?_
    refine (dif_pos (by omega)).trans ?_
    refine Eq.trans ?_ (if_neg (by omega)).symm
    refine (hz _).trans (congrArg (dot _ _) (funext fun k => ?_))
    unfold colA
    refine Eq.trans ?_ (dif_neg (by omega)).symm
    refine Eq.trans ?_ (dif_neg (by omega)).symm
    refine Eq.trans ?_ (dif_neg (by omega)).symm
    refine Eq.trans ?_ (dif_pos (by omega)).symm
    exact congrArg (fun t => w (ix2 k t)) (Fin.ext (by first | omega | (dsimp only; omega) | dsimp only))
  · refine (dif_neg (by omega)).trans ?_
    refine (dif_neg (by omega)).trans ?_
    refine (dif_neg (by omega)).trans ?_
    refine (dif_neg (by omega)).trans ?_
    refine (dif_pos (by omega)).trans ?_
    refine Eq.trans ?_ (if_neg (by omega)).symm
    refine (hz _).trans (congrArg (dot _ _) (funext fun k => ?_))
    unfold colA
    refine Eq.trans ?_ (dif_neg (by omega)).symm
    refine Eq.trans ?_ (dif_neg (by omega)).symm
    refine Eq.trans ?_ (dif_neg (by omega)).symm
    refine Eq.trans ?_ (dif_neg (by omega)).symm
    refine Eq.trans ?_ (dif_pos (by omega)).symm
    exact congrArg (fun t => w (ix2 k t)) (Fin.ext (by first | omega | (dsimp only; omega) | dsimp only))
  · refine (dif_neg (by omega)).trans ?_
    refine (dif_neg (by omega)).trans ?_
    refine (dif_neg (by omega)).trans ?_
    refine (dif_neg (by omega)).trans ?_
    refine (dif_neg (by omega)).trans ?_
    refine (dif_pos (by omega)).trans ?_
    refine Eq.trans ?_ (if_neg (by omega)).symm
    refine (dot_zero _ _).symm.trans (congrArg (dot _ _) (funext fun k => ?_))
    unfold colA
    refine Eq.trans ?_ (dif_neg (by omega)).symm
    refine Eq.trans ?_ (dif_neg (by omega)).symm
    refine Eq.trans ?_ (dif_neg (by omega)).symm
    refine Eq.trans ?_ (dif_neg (by omega)).symm
    refine Eq.trans ?_ (dif_neg (by omega)).symm
    refine Eq.trans ?_ (if_pos (by omega)).symm
    rfl
  · refine (dif_neg (by omega)).trans ?_
    refine (dif_neg (by omega)).trans ?_
    refine (dif_neg (by omega)).trans ?_
    refine (dif_neg (by omega)).trans ?_
    refine (dif_neg (by omega)).trans ?_
    refine (dif_neg (by omega)).trans ?_
    refine (dif_pos (by omega)).trans ?_
    refine Eq.trans ?_ (if_neg (by omega)).symm
    refine (hz _).trans (congrArg (dot _ _) (funext fun k => ?_))
    unfold colA
    refine Eq.trans ?_ (dif_neg (by omega)).symm
    refine Eq.trans ?_ (dif_neg (by omega)).symm
    refine Eq.trans ?_ (dif_neg (by omega)).symm
    refine Eq.trans ?_ (dif_neg (by omega)).symm
    refine Eq.trans ?_ (dif_neg (by omega)).symm
    refine Eq.trans ?_ (if_neg (by omega)).symm
    refine Eq.trans ?_ (dif_pos (by omega)).symm
    exact congrArg (fun t => w (ix2 k t)) (Fin.ext (by first | omega | (dsimp only; omega) | dsimp only))
  · refine (dif_neg (by omega)).trans ?_
    refine (dif_neg (by omega)).trans ?_
    refine (dif_neg (by omega)).trans ?_
    refine (dif_neg (by omega)).trans ?_
    refine (dif_neg (by omega)).trans ?_
    refine (dif_neg (by omega)).trans ?_
    refine (dif_neg (by omega)).trans ?_
    refine Eq.trans ?_ (if_neg (by omega)).symm
    refine (dot_zero _ _).symm.trans (congrArg (dot _ _) (funext fun k => ?_))
    unfold colA
    refine Eq.trans ?_ (dif_neg (by omega)).symm
    refine Eq.trans ?_ (dif_neg (by omega)).symm
    refine Eq.trans ?_ (dif_neg (by omega)).symm
    refine Eq.trans ?_ (dif_neg (by omega)).symm
    refine Eq.trans ?_ (dif_neg (by omega)).symm
    refine Eq.trans ?_ (if_neg (by omega)).symm
    refine Eq.trans ?_ (dif_neg (by omega)).symm
    rfl

end Cert.ProjARefIdeal.RefValue

end
-- ==== Proof.Proj.RefC.lean ====
/-
  The plain norm and projections of the second of the two layers: the result, read index by index, is the row of `Proj/Spec`.
-/
module

public import proofs.«01_k».proof.Proof.Proj.Spec
public import proofs.«01_k».proof.Proof.Gen.ProjCRefIdeal.Run
public import proofs.«01_k».proof.Proof.Gen.ProjCRefIdeal.Read
public import Idealize.ShloMosaic.Lib.Pointwise

@[expose] public section

set_option maxRecDepth 16384

noncomputable section

namespace Cert.ProjCRefIdeal.RefValue

open Idealize.ShloMosaic Idealize.ShloMosaic.TcCoe Cert.ProjCRefIdeal Cert.ProjCRefIdeal.Read Cert.Ffn.Spec Cert.Proj

variable (x : S16384x1024.Idx → EReal) (g : S1024.Idx → EReal) (w : S1024x1840.Idx → EReal) (cos sin : S8192x32.Idx → EReal)

/-- The normed input. -/
theorem normed (r : Fin 16384) (k : Fin 1024) :
    val_main_v12 (F := Ideal) x g (ix2 r k) = norm (fun k => x (ix2 r k)) (fun k => g (ix1 k)) k := by
  pointwise [val_main_v12, val_main_v11, val_main_v10, val_main_v9, val_main_v8, val_main_v7, val_main_v6, val_main_v5,
    val_main_v4, val_main_v3, val_main_v2, val_main_v1, val_main_v0, val_main_cst, val_main_cst_0, val_main_cst_1]
  rfl

/-- The projection. -/
theorem r13 (r : Fin 16384) (q : Fin 1840) :
    val_main_v13 (F := Ideal) x g w (ix2 r q) = dot (fun k => x (ix2 r k)) (fun k => g (ix1 k)) (fun k => w (ix2 k q)) := by
  have hn := fun k => normed x g r k
  unfold val_main_v13
  generalize val_main_v12 (F := Ideal) x g = n at hn ⊢
  pointwise []
  simp only [hn]
  rfl

/-- A product with nothing. -/
theorem dot_zero (a b : Fin 1024 → EReal) : dot a b (fun _ => 0) = 0 := by
  unfold dot
  simp only [mul_zero, Finset.sum_const_zero]

/-- The position of a row in its sequence. -/
def pos (r : Fin 16384) : Fin 8192 := ⟨r.val % 8192, Nat.mod_lt _ (by decide)⟩
/-- The row of a position of a sequence. -/
def rowOf (b : Fin 2) (s : Fin 8192) : Fin 16384 := ⟨b.val * 8192 + s.val, by omega⟩
/-- A row of the projection, its columns in the order of the result. -/
abbrev zrow (r : Fin 16384) (q : ℕ) : EReal :=
  dot (fun k => x (ix2 r k)) (fun k => g (ix1 k)) (colC (fun k f => w (ix2 k f)) q)

/-- A column of it. -/
theorem column (r : Fin 16384) (q : ℕ) (p : Fin 1840) (e : p.val = q) :
    val_main_v13 (F := Ideal) x g w (ix2 r p) = zrow x g w r q := by
  subst e
  refine (r13 x g w r p).trans (congrArg (dot _ _) (funext fun k => ?_))
  unfold colC
  rw [dif_pos p.isLt]

/-- The turned heads' first halves … -/
theorem r26 (b : Fin 2) (s : Fin 8192) (h : Fin 2) (d : Fin 32) :
    val_main_v26 (F := Ideal) x g w cos sin (ix4 b s h d)
      = val_main_v13 (F := Ideal) x g w (ix2 (rowOf b s) ⟨1280 + (h.val * 64 + d.val), by omega⟩) * cos (ix2 s d)
        - val_main_v13 (F := Ideal) x g w (ix2 (rowOf b s) ⟨1280 + (h.val * 64 + (32 + d.val)), by omega⟩) * sin (ix2 s d) := by
  unfold val_main_v26 val_main_v25 val_main_v24 val_main_v23 val_main_v22 val_main_v21 val_main_v20 val_main_v19 val_main_v18 val_main_v17 val_main_v16 val_main_v15 val_main_v14
  generalize val_main_v13 (F := Ideal) x g w = y
  pointwise []
  rfl

/-- … and second halves. -/
theorem r33 (b : Fin 2) (s : Fin 8192) (h : Fin 2) (d : Fin 32) :
    val_main_v33 (F := Ideal) x g w cos sin (ix4 b s h d)
      = val_main_v13 (F := Ideal) x g w (ix2 (rowOf b s) ⟨1280 + (h.val * 64 + (32 + d.val)), by omega⟩) * cos (ix2 s d)
        + val_main_v13 (F := Ideal) x g w (ix2 (rowOf b s) ⟨1280 + (h.val * 64 + d.val), by omega⟩) * sin (ix2 s d) := by
  unfold val_main_v33 val_main_v32 val_main_v31 val_main_v30 val_main_v29 val_main_v28 val_main_v27 val_main_v19 val_main_v18 val_main_v17 val_main_v16 val_main_v15 val_main_v14
  generalize val_main_v13 (F := Ideal) x g w = y
  pointwise []
  rfl

/-- The turned columns. -/
theorem r35 (r : Fin 16384) (j : Fin 128) :
    val_main_v35 (F := Ideal) x g w cos sin (ix2 r j)
      = turned (zrow x g w r) (fun k => cos (ix2 (pos r) k)) (fun k => sin (ix2 (pos r) k)) (1280 + j.val) := by
  unfold val_main_v35 val_main_v34
  have h1 := r26 x g w cos sin
  have h2 := r33 x g w cos sin
  generalize val_main_v26 (F := Ideal) x g w cos sin = y1 at h1 ⊢
  generalize val_main_v33 (F := Ideal) x g w cos sin = y2 at h2 ⊢
  pointwise []
  have hj := j.isLt
  have er : rowOf ⟨r.val / 8192, by omega⟩ (pos r) = r := Fin.ext (by show r.val / 8192 * 8192 + r.val % 8192 = r.val; omega)
  unfold turned
  by_cases hc : j.val % 64 < 32
  · refine (dif_pos hc).trans (Eq.trans ?_ (if_pos (by omega)).symm)
    refine (h1 ⟨r.val / 8192, by omega⟩ (pos r) ⟨j.val / 64, by omega⟩ ⟨j.val % 64, hc⟩).trans ?_
    rw [er, column x g w r (1280 + j.val) _ (by dsimp only; omega), column x g w r (1280 + j.val + 32) _ (by dsimp only; omega),
      show lane (1280 + j.val) = ⟨j.val % 64, hc⟩ from Fin.ext (by show (1280 + j.val) % 32 = j.val % 64; omega)]
  · refine (dif_neg hc).trans (Eq.trans ?_ (if_neg (by omega)).symm)
    refine (h2 ⟨r.val / 8192, by omega⟩ (pos r) ⟨j.val / 64, by omega⟩ ⟨j.val % 64 - 32, by omega⟩).trans ?_
    rw [er, column x g w r (1280 + j.val) _ (by dsimp only; omega), column x g w r (1280 + j.val - 32) _ (by dsimp only; omega),
      show lane (1280 + j.val) = ⟨j.val % 64 - 32, by omega⟩ from Fin.ext (by show (1280 + j.val) % 32 = j.val % 64 - 32; omega)]

/-- The turned heads' first halves … -/
theorem r48 (b : Fin 2) (s : Fin 8192) (h : Fin 2) (d : Fin 32) :
    val_main_v48 (F := Ideal) x g w cos sin (ix4 b s h d)
      = val_main_v13 (F := Ideal) x g w (ix2 (rowOf b s) ⟨1536 + (h.val * 64 + d.val), by omega⟩) * cos (ix2 s d)
        - val_main_v13 (F := Ideal) x g w (ix2 (rowOf b s) ⟨1536 + (h.val * 64 + (32 + d.val)), by omega⟩) * sin (ix2 s d) := by
  unfold val_main_v48 val_main_v47 val_main_v46 val_main_v45 val_main_v44 val_main_v43 val_main_v42 val_main_v41 val_main_v40 val_main_v39 val_main_v38 val_main_v37 val_main_v36
  generalize val_main_v13 (F := Ideal) x g w = y
  pointwise []
  rfl

/-- … and second halves. -/
theorem r55 (b : Fin 2) (s : Fin 8192) (h : Fin 2) (d : Fin 32) :
    val_main_v55 (F := Ideal) x g w cos sin (ix4 b s h d)
      = val_main_v13 (F := Ideal) x g w (ix2 (rowOf b s) ⟨1536 + (h.val * 64 + (32 + d.val)), by omega⟩) * cos (ix2 s d)
        + val_main_v13 (F := Ideal) x g w (ix2 (rowOf b s) ⟨1536 + (h.val * 64 + d.val), by omega⟩) * sin (ix2 s d) := by
  unfold val_main_v55 val_main_v54 val_main_v53 val_main_v52 val_main_v51 val_main_v50 val_main_v49 val_main_v41 val_main_v40 val_main_v39 val_main_v38 val_main_v37 val_main_v36
  generalize val_main_v13 (F := Ideal) x g w = y
  pointwise []
  rfl

/-- The turned columns. -/
theorem r57 (r : Fin 16384) (j : Fin 128) :
    val_main_v57 (F := Ideal) x g w cos sin (ix2 r j)
      = turned (zrow x g w r) (fun k => cos (ix2 (pos r) k)) (fun k => sin (ix2 (pos r) k)) (1536 + j.val) := by
  unfold val_main_v57 val_main_v56
  have h1 := r48 x g w cos sin
  have h2 := r55 x g w cos sin
  generalize val_main_v48 (F := Ideal) x g w cos sin = y1 at h1 ⊢
  generalize val_main_v55 (F := Ideal) x g w cos sin = y2 at h2 ⊢
  pointwise []
  have hj := j.isLt
  have er : rowOf ⟨r.val / 8192, by omega⟩ (pos r) = r := Fin.ext (by show r.val / 8192 * 8192 + r.val % 8192 = r.val; omega)
  unfold turned
  by_cases hc : j.val % 64 < 32
  · refine (dif_pos hc).trans (Eq.trans ?_ (if_pos (by omega)).symm)
    refine (h1 ⟨r.val / 8192, by omega⟩ (pos r) ⟨j.val / 64, by omega⟩ ⟨j.val % 64, hc⟩).trans ?_
    rw [er, column x g w r (1536 + j.val) _ (by dsimp only; omega), column x g w r (1536 + j.val + 32) _ (by dsimp only; omega),
      show lane (1536 + j.val) = ⟨j.val % 64, hc⟩ from Fin.ext (by show (1536 + j.val) % 32 = j.val % 64; omega)]
  · refine (dif_neg hc).trans (Eq.trans ?_ (if_neg (by omega)).symm)
    refine (h2 ⟨r.val / 8192, by omega⟩ (pos r) ⟨j.val / 64, by omega⟩ ⟨j.val % 64 - 32, by omega⟩).trans ?_
    rw [er, column x g w r (1536 + j.val) _ (by dsimp only; omega), column x g w r (1536 + j.val - 32) _ (by dsimp only; omega),
      show lane (1536 + j.val) = ⟨j.val % 64 - 32, by omega⟩ from Fin.ext (by show (1536 + j.val) % 32 = j.val % 64 - 32; omega)]

set_option maxHeartbeats 4000000 in
/-- The result. -/
theorem r62 (r : Fin 16384) (q : Fin 2048) :
    val_main_v62 (F := Ideal) x g w cos sin (ix2 r q)
      = rowC (fun k => x (ix2 r k)) (fun k => g (ix1 k)) (fun k f => w (ix2 k f)) (fun k => cos (ix2 (pos r) k))
        (fun k => sin (ix2 (pos r) k)) q.val := by
  have hq := q.isLt
  have hz := fun q => r13 x g w r q
  have h35 := fun j => r35 x g w cos sin r j
  have h57 := fun j => r57 x g w cos sin r j
  unfold val_main_v62 val_main_v58 val_main_v59 val_main_v60 val_main_v61 val_main_cst_2
  generalize val_main_v13 (F := Ideal) x g w = y at hz ⊢
  generalize val_main_v35 (F := Ideal) x g w cos sin = y35 at h35 ⊢
  generalize val_main_v57 (F := Ideal) x g w cos sin = y57 at h57 ⊢
  pointwise []
  unfold rowC
  obtain h | h | h | h | h | h : (0 ≤ q.val ∧ q.val < 1280) ∨ (1280 ≤ q.val ∧ q.val < 1408) ∨ (1408 ≤ q.val ∧ q.val < 1536) ∨ (1536 ≤ q.val ∧ q.val < 1664) ∨ (1664 ≤ q.val ∧ q.val < 1840) ∨ (1840 ≤ q.val ∧ q.val < 2048) := by omega
  · refine (dif_pos (by omega)).trans ?_
    refine Eq.trans ?_ (if_neg (by omega)).symm
    refine (hz _).trans (congrArg (dot _ _) (funext fun k => ?_))
    unfold colC
    refine Eq.trans ?_ (dif_pos (by omega)).symm
    exact congrArg (fun t => w (ix2 k t)) (Fin.ext (by first | omega | (dsimp only; omega) | dsimp only))
  · refine (dif_neg (by omega)).trans ?_
    refine (dif_pos (by omega)).trans ?_
    refine Eq.trans ?_ (if_pos (by omega)).symm
    refine (h35 _).trans (congrArg (turned _ _ _) ?_)
    dsimp only
    omega
  · refine (dif_neg (by omega)).trans ?_
    refine (dif_neg (by omega)).trans ?_
    refine (dif_pos (by omega)).trans ?_
    refine Eq.trans ?_ (if_neg (by omega)).symm
    refine (hz _).trans (congrArg (dot _ _) (funext fun k => ?_))
    unfold colC
    refine Eq.trans ?_ (dif_pos (by omega)).symm
    exact congrArg (fun t => w (ix2 k t)) (Fin.ext (by first | omega | (dsimp only; omega) | dsimp only))
  · refine (dif_neg (by omega)).trans ?_
    refine (dif_neg (by omega)).trans ?_
    refine (dif_neg (by omega)).trans ?_
    refine (dif_pos (by omega)).trans ?_
    refine Eq.trans ?_ (if_pos (by omega)).symm
    refine (h57 _).trans (congrArg (turned _ _ _) ?_)
    dsimp only
    omega
  · refine (dif_neg (by omega)).trans ?_
    refine (dif_neg (by omega)).trans ?_
    refine (dif_neg (by omega)).trans ?_
    refine (dif_neg (by omega)).trans ?_
    refine (dif_pos (by omega)).trans ?_
    refine Eq.trans ?_ (if_neg (by omega)).symm
    refine (hz _).trans (congrArg (dot _ _) (funext fun k => ?_))
    unfold colC
    refine Eq.trans ?_ (dif_pos (by omega)).symm
    exact congrArg (fun t => w (ix2 k t)) (Fin.ext (by first | omega | (dsimp only; omega) | dsimp only))
  · refine (dif_neg (by omega)).trans ?_
    refine (dif_neg (by omega)).trans ?_
    refine (dif_neg (by omega)).trans ?_
    refine (dif_neg (by omega)).trans ?_
    refine (dif_neg (by omega)).trans ?_
    refine Eq.trans ?_ (if_neg (by omega)).symm
    refine (dot_zero _ _).symm.trans (congrArg (dot _ _) (funext fun k => ?_))
    unfold colC
    refine Eq.trans ?_ (dif_neg (by omega)).symm
    rfl

end Cert.ProjCRefIdeal.RefValue

end
-- ==== Proof.Proj.Claims.lean ====
/-
  The norm and the projections of both layers: the kernel and the plain program leave the same array.
-/
module

public import proofs.«01_k».proof.Defs
public import proofs.«01_k».proof.Proof.Proj.KernelA
public import proofs.«01_k».proof.Proof.Proj.KernelC
public import proofs.«01_k».proof.Proof.Proj.RefA
public import proofs.«01_k».proof.Proof.Proj.RefC
public import Idealize.ShloMosaic.Adequacy
public import Idealize.ShloMosaic.Init

@[expose] public section

noncomputable section

namespace Cert.Proj

open Idealize.ShloMosaic Idealize.ShloMosaic.TcCoe Idealize.SL.Sem

/-- The plain program runs, leaves its arguments as they were and every semaphore at zero. -/
theorem frameA : Cert.quiescent_ProjARefIdeal (hProjARefIdeal := Cert.ProjARefIdeal.Gen.facts) := fun m ρ _ =>
  (θ_run _ _ _).mono (fun r h => ⟨fun c => (h c).2, sem_eq_zero_of_no_sems (by decide) r.2⟩)
    (Cert.ProjARefIdeal.Value.run (F := Ideal) m ρ)

/-- The kernel's result is the plain program's. -/
theorem valuesA : Cert.algebraic_ProjAIdeal_ProjARefIdeal (hProjAIdeal := Cert.ProjAIdeal.Gen.facts)
    (hProjARefIdeal := Cert.ProjARefIdeal.Gen.facts) := by
  intro m ρ m' ρ' _ hagree
  refine ⟨fun c => Cert.ProjAIdeal.RefValue.G m c, Cert.ProjAIdeal.RefValue.run m ρ,
    (θ_run _ _ _).mono (fun r h c => ⟨?_, (h c).2⟩) (Cert.ProjARefIdeal.Value.run (F := Ideal) m' ρ')⟩
  refine (h c).1.trans ((Cert.ProjARefIdeal.Read.val_main_v42_eq m' c).trans ?_)
  obtain ⟨h0, h1, h2, h3, h4⟩ := hagree c
  rw [h0, h1, h2, h3, h4]
  refine funext fun i => ?_
  obtain ⟨r, q, rfl⟩ : ∃ (r : Fin 16384) (q : Fin 4608), i = ix2 r q := ⟨_, _, eq_ix2 i⟩
  exact Cert.ProjARefIdeal.RefValue.r42 _ _ _ _ _ r q

/-- The plain program runs, leaves its arguments as they were and every semaphore at zero. -/
theorem frameC : Cert.quiescent_ProjCRefIdeal (hProjCRefIdeal := Cert.ProjCRefIdeal.Gen.facts) := fun m ρ _ =>
  (θ_run _ _ _).mono (fun r h => ⟨fun c => (h c).2, sem_eq_zero_of_no_sems (by decide) r.2⟩)
    (Cert.ProjCRefIdeal.Value.run (F := Ideal) m ρ)

/-- The kernel's result is the plain program's. -/
theorem valuesC : Cert.algebraic_ProjCIdeal_ProjCRefIdeal (hProjCIdeal := Cert.ProjCIdeal.Gen.facts)
    (hProjCRefIdeal := Cert.ProjCRefIdeal.Gen.facts) := by
  intro m ρ m' ρ' _ hagree
  refine ⟨fun c => Cert.ProjCIdeal.RefValue.G m c, Cert.ProjCIdeal.RefValue.run m ρ,
    (θ_run _ _ _).mono (fun r h c => ⟨?_, (h c).2⟩) (Cert.ProjCRefIdeal.Value.run (F := Ideal) m' ρ')⟩
  refine (h c).1.trans ((Cert.ProjCRefIdeal.Read.val_main_v62_eq m' c).trans ?_)
  obtain ⟨h0, h1, h2, h3, h4⟩ := hagree c
  rw [h0, h1, h2, h3, h4]
  refine funext fun i => ?_
  obtain ⟨r, q, rfl⟩ : ∃ (r : Fin 16384) (q : Fin 2048), i = ix2 r q := ⟨_, _, eq_ix2 i⟩
  exact Cert.ProjCRefIdeal.RefValue.r62 _ _ _ _ _ r q

end Cert.Proj

end
-- ==== Proof.Ffn.Kernel.lean ====
/-
  The feed-forward kernel: its result array, read index by index, is the row of `Ffn/Spec`.
-/
module

public import proofs.«01_k».proof.Proof.Ffn.Spec
public import proofs.«01_k».proof.Proof.Gen.FfnIdeal.Value
public import Idealize.ShloMosaic.Lib.Pipeline.Value
public import Idealize.ShloMosaic.Lib.Pointwise

@[expose] public section

set_option maxRecDepth 16384

noncomputable section

namespace Cert.FfnIdeal.RefValue

open Idealize.ShloMosaic Idealize.ShloMosaic.TcCoe Idealize.SL.Sem Cert.FfnIdeal Cert.FfnIdeal.Gen Cert.Ffn.Spec
open Idealize.ShloMosaic.Pipeline (Dat)

/-- The payload is the block's row, entry by entry. -/
theorem pay_apply (x : Vec Ideal S512x1024 .f32) (g : Vec Ideal S1x1024 .f32) (a b : Vec Ideal S1024x2816 .bf16)
    (w : Vec Ideal S2816x1024 .bf16) (r : Fin 512) (q : Fin 1024) :
    k0_pay1 x g a b w (ix2 r q)
      = ffnRow (fun k => x (ix2 r k)) (fun k => g (ix2 0 k)) (fun k f => a (ix2 k f)) (fun k f => b (ix2 k f))
        (fun f k => w (ix2 f k)) q := by
  pointwise [k0_pay1]
  rfl

/-- The body's store, entry by entry. -/
theorem out_apply (x0 : Vec Ideal S512x1024 .f32) (x1 : Vec Ideal S1x1024 .f32) (x2 x3 : Vec Ideal S1024x2816 .bf16)
    (x4 : Vec Ideal S2816x1024 .bf16) (x5 : Vec Ideal S1x1024 .f32) (r : Fin 512) (q : Fin 1024) :
    out0_6 x0 x1 x2 x3 x4 x5 (ix2 r q)
      = ffnRow (fun k => x0 (ix2 r k)) (fun k => x1 (ix2 0 k)) (fun k f => x2 (ix2 k f)) (fun k f => x3 (ix2 k f))
        (fun f k => x4 (ix2 f k)) q := by
  have hz' : (![0, 0] : Fin 2 → Nat) = fun _ => 0 := funext fun a => by fin_cases a <;> rfl
  unfold out0_6
  rw [View.canon_unit_zero hz']
  simp only [View.ld_unit_zero (S := S512x1024) hz', View.ld_unit_zero (S := S1x1024) hz', View.ld_unit_zero (S := S1024x2816) hz',
    View.ld_unit_zero (S := S2816x1024) hz']
  exact pay_apply _ _ _ _ _ _ _

variable (m : (ℓ : Loc nD τ sig) → Buf (Elt Ideal) ℓ) (ρ : Dev nD → PrngReg)

/-- The input, the gain and the three weights the run is launched with, as functions of their coordinates. -/
abbrev inX (c : Dev nD) : Fin 16384 → Fin 1024 → EReal := fun r k => m ((c : Thread nD τ).loc main_arg0) (ix2 r k)
abbrev inG (c : Dev nD) : Fin 1024 → EReal := fun k => m ((c : Thread nD τ).loc main_arg1) (ix1 k)
abbrev inA (c : Dev nD) : Fin 1024 → Fin 2816 → EReal := fun k f => m ((c : Thread nD τ).loc main_arg2) (ix2 k f)
abbrev inB (c : Dev nD) : Fin 1024 → Fin 2816 → EReal := fun k f => m ((c : Thread nD τ).loc main_arg3) (ix2 k f)
abbrev inW (c : Dev nD) : Fin 2816 → Fin 1024 → EReal := fun f k => m ((c : Thread nD τ).loc main_arg4) (ix2 f k)

/-- Where each grid point reads and writes. -/
theorem idx_facts : ∀ t : Fin cfg0.N,
    (win0_0.index t 0 = t.val ∧ win0_0.index t 1 = 0) ∧ (win0_1.index t 0 = 0 ∧ win0_1.index t 1 = 0)
    ∧ (win0_2.index t 0 = 0 ∧ win0_2.index t 1 = 0) ∧ (win0_3.index t 0 = 0 ∧ win0_3.index t 1 = 0)
    ∧ (win0_4.index t 0 = 0 ∧ win0_4.index t 1 = 0)
    ∧ (win0_5.index t 0 = 0 ∧ win0_5.index t 1 = 0) ∧ (win0_6.index t 0 = t.val ∧ win0_6.index t 1 = 0) :=
  (by decide +kernel : ∀ t : Fin grid0.N, _)

/-- The arrays the windows read are the arguments, a change of float format being the identity here. -/
theorem arr_a (c : Dev nD) (k : Fin 1024) (f : Fin 2816) : V m c main_v0 (ix2 k f) = inA m c k f := by
  have e : V m c main_v0 = truncf (F := Ideal) .bf16 (m ((c : Thread nD τ).loc main_arg2)) bitsLt_bf16_f32 := by
    unfold_abbrev_sides; after_results
  rw [e]; rfl

theorem arr_b (c : Dev nD) (k : Fin 1024) (f : Fin 2816) : V m c main_v1 (ix2 k f) = inB m c k f := by
  have e : V m c main_v1 = truncf (F := Ideal) .bf16 (m ((c : Thread nD τ).loc main_arg3)) bitsLt_bf16_f32 := by
    unfold_abbrev_sides; after_results
  rw [e]; rfl

theorem arr_w (c : Dev nD) (f : Fin 2816) (k : Fin 1024) : V m c main_v2 (ix2 f k) = inW m c f k := by
  have e : V m c main_v2 = truncf (F := Ideal) .bf16 (m ((c : Thread nD τ).loc main_arg4)) bitsLt_bf16_f32 := by
    unfold_abbrev_sides; after_results
  rw [e]; rfl

theorem arr_g (c : Dev nD) (k : Fin 1024) : V m c main_v3 (ix2 0 k) = inG m c k := by
  have e : V m c main_v3 = shapeCast S1x1024 (m ((c : Thread nD τ).loc main_arg1)) shapeCasts_S1024_S1x1024 := by
    unfold_abbrev_sides; after_results; rfl
  rw [e]
  show _ = m ((c : Thread nD τ).loc main_arg1) (ix1 k)
  generalize m ((c : Thread nD τ).loc main_arg1) = z
  pointwise []

/-- A block of the layout the windows read, at an index of it. -/
theorem read_at {S : Shape} (y : S.Idx → EReal) (i j : S.Idx) (h : ∀ a, (i a).val = (j a).val) : y i = y j :=
  congrArg y (funext fun a => Fin.ext (h a))

/-- The block of rows a grid point works on. -/
def at_ (t : Fin cfg0.N) : Fin 32 := ⟨t.val, lt_of_lt_of_eq t.isLt N_0⟩

/-- What a grid point reads: its rows of the input, and the whole gains and weights. -/
theorem blk0 (c : Dev nD) (t : Fin cfg0.N) (r : Fin 512) (k : Fin 1024) : iblk m c 0 t (ix2 r k) = inX m c (row (at_ t) r) k := by
  obtain ⟨h, -, -, -, -, -, -⟩ := idx_facts t
  unfold iblk
  rw [View.read_apply]
  refine Eq.trans ?_ (congrFun (V_main_arg0 m c) (ix2 (row (at_ t) r) k))
  refine read_at (V m c main_arg0) _ _ (Fin.forall_fin_two.2 ⟨?_, ?_⟩)
  · show win0_0.index t 0 * 512 + 1 * r.val = t.val * 512 + r.val; omega
  · show win0_0.index t 1 * 1024 + 1 * k.val = k.val; omega

theorem blk1 (c : Dev nD) (t : Fin cfg0.N) (k : Fin 1024) : iblk m c 1 t (ix2 0 k) = inG m c k := by
  obtain ⟨-, h, -, -, -, -, -⟩ := idx_facts t
  unfold iblk
  rw [View.read_apply]
  refine Eq.trans ?_ (arr_g m c k)
  refine read_at (V m c main_v3) _ _ (Fin.forall_fin_two.2 ⟨?_, ?_⟩)
  · show win0_1.index t 0 * 1 + 1 * 0 = 0; omega
  · show win0_1.index t 1 * 1024 + 1 * k.val = k.val; omega

theorem blk2 (c : Dev nD) (t : Fin cfg0.N) (k : Fin 1024) (f : Fin 2816) : iblk m c 2 t (ix2 k f) = inA m c k f := by
  obtain ⟨-, -, h, -, -, -, -⟩ := idx_facts t
  unfold iblk
  rw [View.read_apply]
  refine Eq.trans ?_ (arr_a m c k f)
  refine read_at (V m c main_v0) _ _ (Fin.forall_fin_two.2 ⟨?_, ?_⟩)
  · show win0_2.index t 0 * 1024 + 1 * k.val = k.val; omega
  · show win0_2.index t 1 * 2816 + 1 * f.val = f.val; omega

theorem blk3 (c : Dev nD) (t : Fin cfg0.N) (k : Fin 1024) (f : Fin 2816) : iblk m c 3 t (ix2 k f) = inB m c k f := by
  obtain ⟨-, -, -, h, -, -, -⟩ := idx_facts t
  unfold iblk
  rw [View.read_apply]
  refine Eq.trans ?_ (arr_b m c k f)
  refine read_at (V m c main_v1) _ _ (Fin.forall_fin_two.2 ⟨?_, ?_⟩)
  · show win0_3.index t 0 * 1024 + 1 * k.val = k.val; omega
  · show win0_3.index t 1 * 2816 + 1 * f.val = f.val; omega

theorem blk4 (c : Dev nD) (t : Fin cfg0.N) (f : Fin 2816) (k : Fin 1024) : iblk m c 4 t (ix2 f k) = inW m c f k := by
  obtain ⟨-, -, -, -, h, -, -⟩ := idx_facts t
  unfold iblk
  rw [View.read_apply]
  refine Eq.trans ?_ (arr_w m c f k)
  refine read_at (V m c main_v2) _ _ (Fin.forall_fin_two.2 ⟨?_, ?_⟩)
  · show win0_4.index t 0 * 2816 + 1 * f.val = f.val; omega
  · show win0_4.index t 1 * 1024 + 1 * k.val = k.val; omega

/-- The result as one array. -/
def G (c : Dev nD) : S16384x1024.Idx → EReal := fun i => ffnRow (inX m c (i 0)) (inG m c) (inA m c) (inB m c) (inW m c) (i 1)

/-- What a point writes back is its block of the result. -/
theorem flushed_eq (c : Dev nD) (t : Fin cfg0.N) : (dats m 0 c).flushed 6 t = (win0_6.blk t).view.read (Elt Ideal) (G m c) := by
  obtain ⟨-, -, -, -, -, -, h⟩ := idx_facts t
  rw [Value.flushed6]
  funext j
  rw [View.read_apply]
  obtain ⟨r, q, rfl⟩ : ∃ (r : Fin 512) (q : Fin 1024), j = ix2 r q := ⟨_, _, eq_ix2 j⟩
  refine Eq.trans ?_ (read_at (G m c) (ix2 (row (at_ t) r) q) _ (Fin.forall_fin_two.2 ⟨?_, ?_⟩))
  · show out0_6 _ _ _ _ _ _ (ix2 r q) = _
    rw [out_apply]
    simp only [blk0, blk1, blk2, blk3, blk4]
    rfl
  · show t.val * 512 + r.val = win0_6.index t 0 * 512 + 1 * r.val; omega
  · show q.val = win0_6.index t 1 * 1024 + 1 * q.val; omega

/-- Every entry is some point's. -/
theorem cover (i : S16384x1024.Idx) :
    ∃ t : Fin cfg0.N, (cfg0.win 6).flush t = true ∧ i ∈ ((cfg0.win 6).blk t).view.set := by
  have h0 : (i 0).val < 16384 := (i 0).isLt
  have h1 : (i 1).val < 1024 := (i 1).isLt
  have hN : cfg0.N = 32 := N_0
  refine ⟨⟨(i 0).val / 512, by omega⟩, flush0_6 _, ?_⟩
  generalize ht : (⟨(i 0).val / 512, by omega⟩ : Fin cfg0.N) = t
  have hp : t.val = (i 0).val / 512 := by rw [← ht]
  show i ∈ ((View.whole main_v5).slice (win0_6.rect t)).set
  rw [View.set_slice_whole, Rect.mem_set_unit]
  obtain ⟨-, -, -, -, -, -, h⟩ := idx_facts t
  intro a
  match a with
  | ⟨0, _⟩ => show win0_6.index t 0 * 512 ≤ (i 0).val ∧ (i 0).val < win0_6.index t 0 * 512 + 512; omega
  | ⟨1, _⟩ => show win0_6.index t 1 * 1024 ≤ (i 1).val ∧ (i 1).val < win0_6.index t 1 * 1024 + 1024; omega

/-- The run: the result, and the arguments left as they were. -/
theorem run : θ_run defs (onTc (τ := τ) (main (F := Ideal))) ⟨m, fun _ => 0, ρ⟩ fun r => ∀ c : Dev nD,
      r.2.mem ((c : Thread nD τ).loc main_v5) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c =>
      ⟨(h c).1.trans ((dats m 0 c).arrAt_eq_of_cover 6 (G m c) (fun t _ => flushed_eq m c t) cover), (h c).2⟩)
    (Value.run_blocks m ρ)

end Cert.FfnIdeal.RefValue

end
-- ==== Proof.Ffn.KernelFinal.lean ====
/-
  The feed-forward kernel with the model's last norm fused into it: its result array, read index by index, is the normed row of
  `Ffn/Spec`.
-/
module

public import proofs.«01_k».proof.Proof.Ffn.Kernel
public import proofs.«01_k».proof.Proof.Gen.FfnFinalIdeal.Value
public import Idealize.ShloMosaic.Lib.Pipeline.Value
public import Idealize.ShloMosaic.Lib.Pointwise

@[expose] public section

set_option maxRecDepth 16384

noncomputable section

namespace Cert.FfnFinalIdeal.RefValue

open Idealize.ShloMosaic Idealize.ShloMosaic.TcCoe Idealize.SL.Sem Cert.FfnFinalIdeal Cert.FfnFinalIdeal.Gen Cert.Ffn.Spec
open Idealize.ShloMosaic.Pipeline (Dat)

/-- The first payload is that of the kernel without the last norm. -/
theorem pay2_eq : @k0_pay2 = @Cert.FfnIdeal.Gen.k0_pay1 := rfl

/-- The others norm its rows. -/
theorem pay_apply (x : Vec Ideal S512x1024 .f32) (g h : Vec Ideal S1x1024 .f32) (a b : Vec Ideal S1024x2816 .bf16)
    (w : Vec Ideal S2816x1024 .bf16) (r : Fin 512) (q : Fin 1024) :
    k0_pay1 (k0_pay2 x g a b w) (k0_pay3 h) (k0_pay4 x g a b w) (k0_pay5 (F := Ideal)) (ix2 r q)
      = norm (ffnRow (fun k => x (ix2 r k)) (fun k => g (ix2 0 k)) (fun k f => a (ix2 k f)) (fun k f => b (ix2 k f))
        (fun f k => w (ix2 f k))) (fun k => h (ix2 0 k)) q := by
  have hy := fun q => Cert.FfnIdeal.RefValue.pay_apply x g a b w r q
  unfold k0_pay4
  rw [pay2_eq]
  generalize Cert.FfnIdeal.Gen.k0_pay1 (F := Ideal) x g a b w = y at hy ⊢
  refine Eq.trans (b := norm (fun k => y (ix2 r k)) (fun k => h (ix2 0 k)) q) ?_ (congrArg (fun f => norm f (fun k => h (ix2 0 k)) q) (funext hy))
  pointwise [k0_pay1, k0_pay3, k0_pay5]
  rfl

/-- The body's store, entry by entry. -/
theorem out_apply (x0 : Vec Ideal S512x1024 .f32) (x1 : Vec Ideal S1x1024 .f32) (x2 x3 : Vec Ideal S1024x2816 .bf16)
    (x4 : Vec Ideal S2816x1024 .bf16) (x5 : Vec Ideal S1x1024 .f32) (r : Fin 512) (q : Fin 1024) :
    out0_6 x0 x1 x2 x3 x4 x5 (ix2 r q)
      = norm (ffnRow (fun k => x0 (ix2 r k)) (fun k => x1 (ix2 0 k)) (fun k f => x2 (ix2 k f)) (fun k f => x3 (ix2 k f))
        (fun f k => x4 (ix2 f k))) (fun k => x5 (ix2 0 k)) q := by
  have hz' : (![0, 0] : Fin 2 → Nat) = fun _ => 0 := funext fun a => by fin_cases a <;> rfl
  unfold out0_6
  rw [View.canon_unit_zero hz']
  simp only [View.ld_unit_zero (S := S512x1024) hz', View.ld_unit_zero (S := S1x1024) hz', View.ld_unit_zero (S := S1024x2816) hz',
    View.ld_unit_zero (S := S2816x1024) hz']
  exact pay_apply _ _ _ _ _ _ _ _

variable (m : (ℓ : Loc nD τ sig) → Buf (Elt Ideal) ℓ) (ρ : Dev nD → PrngReg)

/-- The input, the gain and the three weights the run is launched with, as functions of their coordinates. -/
abbrev inX (c : Dev nD) : Fin 16384 → Fin 1024 → EReal := fun r k => m ((c : Thread nD τ).loc main_arg0) (ix2 r k)
abbrev inG (c : Dev nD) : Fin 1024 → EReal := fun k => m ((c : Thread nD τ).loc main_arg1) (ix1 k)
abbrev inA (c : Dev nD) : Fin 1024 → Fin 2816 → EReal := fun k f => m ((c : Thread nD τ).loc main_arg2) (ix2 k f)
abbrev inB (c : Dev nD) : Fin 1024 → Fin 2816 → EReal := fun k f => m ((c : Thread nD τ).loc main_arg3) (ix2 k f)
abbrev inW (c : Dev nD) : Fin 2816 → Fin 1024 → EReal := fun f k => m ((c : Thread nD τ).loc main_arg4) (ix2 f k)
abbrev inH (c : Dev nD) : Fin 1024 → EReal := fun k => m ((c : Thread nD τ).loc main_arg5) (ix1 k)

/-- Where each grid point reads and writes. -/
theorem idx_facts : ∀ t : Fin cfg0.N,
    (win0_0.index t 0 = t.val ∧ win0_0.index t 1 = 0) ∧ (win0_1.index t 0 = 0 ∧ win0_1.index t 1 = 0)
    ∧ (win0_2.index t 0 = 0 ∧ win0_2.index t 1 = 0) ∧ (win0_3.index t 0 = 0 ∧ win0_3.index t 1 = 0)
    ∧ (win0_4.index t 0 = 0 ∧ win0_4.index t 1 = 0)
    ∧ (win0_5.index t 0 = 0 ∧ win0_5.index t 1 = 0) ∧ (win0_6.index t 0 = t.val ∧ win0_6.index t 1 = 0) :=
  (by decide +kernel : ∀ t : Fin grid0.N, _)

/-- The arrays the windows read are the arguments, a change of float format being the identity here. -/
theorem arr_a (c : Dev nD) (k : Fin 1024) (f : Fin 2816) : V m c main_v0 (ix2 k f) = inA m c k f := by
  have e : V m c main_v0 = truncf (F := Ideal) .bf16 (m ((c : Thread nD τ).loc main_arg2)) bitsLt_bf16_f32 := by
    unfold_abbrev_sides; after_results
  rw [e]; rfl

theorem arr_b (c : Dev nD) (k : Fin 1024) (f : Fin 2816) : V m c main_v1 (ix2 k f) = inB m c k f := by
  have e : V m c main_v1 = truncf (F := Ideal) .bf16 (m ((c : Thread nD τ).loc main_arg3)) bitsLt_bf16_f32 := by
    unfold_abbrev_sides; after_results
  rw [e]; rfl

theorem arr_w (c : Dev nD) (f : Fin 2816) (k : Fin 1024) : V m c main_v2 (ix2 f k) = inW m c f k := by
  have e : V m c main_v2 = truncf (F := Ideal) .bf16 (m ((c : Thread nD τ).loc main_arg4)) bitsLt_bf16_f32 := by
    unfold_abbrev_sides; after_results
  rw [e]; rfl

theorem arr_g (c : Dev nD) (k : Fin 1024) : V m c main_v3 (ix2 0 k) = inG m c k := by
  have e : V m c main_v3 = shapeCast S1x1024 (m ((c : Thread nD τ).loc main_arg1)) shapeCasts_S1024_S1x1024 := by
    unfold_abbrev_sides; after_results; rfl
  rw [e]
  show _ = m ((c : Thread nD τ).loc main_arg1) (ix1 k)
  generalize m ((c : Thread nD τ).loc main_arg1) = z
  pointwise []

theorem arr_h (c : Dev nD) (k : Fin 1024) : V m c main_v4 (ix2 0 k) = inH m c k := by
  have e : V m c main_v4 = shapeCast S1x1024 (m ((c : Thread nD τ).loc main_arg5)) shapeCasts_S1024_S1x1024 := by
    unfold_abbrev_sides; after_results; rfl
  rw [e]
  show _ = m ((c : Thread nD τ).loc main_arg5) (ix1 k)
  generalize m ((c : Thread nD τ).loc main_arg5) = z
  pointwise []

/-- The block of rows a grid point works on. -/
def at_ (t : Fin cfg0.N) : Fin 32 := ⟨t.val, lt_of_lt_of_eq t.isLt N_0⟩

/-- What a grid point reads: its rows of the input, and the whole gains and weights. -/
theorem blk0 (c : Dev nD) (t : Fin cfg0.N) (r : Fin 512) (k : Fin 1024) : iblk m c 0 t (ix2 r k) = inX m c (row (at_ t) r) k := by
  obtain ⟨h, -, -, -, -, -, -⟩ := idx_facts t
  unfold iblk
  rw [View.read_apply]
  refine Eq.trans ?_ (congrFun (V_main_arg0 m c) (ix2 (row (at_ t) r) k))
  refine Cert.FfnIdeal.RefValue.read_at (V m c main_arg0) _ _ (Fin.forall_fin_two.2 ⟨?_, ?_⟩)
  · show win0_0.index t 0 * 512 + 1 * r.val = t.val * 512 + r.val; omega
  · show win0_0.index t 1 * 1024 + 1 * k.val = k.val; omega

theorem blk1 (c : Dev nD) (t : Fin cfg0.N) (k : Fin 1024) : iblk m c 1 t (ix2 0 k) = inG m c k := by
  obtain ⟨-, h, -, -, -, -, -⟩ := idx_facts t
  unfold iblk
  rw [View.read_apply]
  refine Eq.trans ?_ (arr_g m c k)
  refine Cert.FfnIdeal.RefValue.read_at (V m c main_v3) _ _ (Fin.forall_fin_two.2 ⟨?_, ?_⟩)
  · show win0_1.index t 0 * 1 + 1 * 0 = 0; omega
  · show win0_1.index t 1 * 1024 + 1 * k.val = k.val; omega

theorem blk2 (c : Dev nD) (t : Fin cfg0.N) (k : Fin 1024) (f : Fin 2816) : iblk m c 2 t (ix2 k f) = inA m c k f := by
  obtain ⟨-, -, h, -, -, -, -⟩ := idx_facts t
  unfold iblk
  rw [View.read_apply]
  refine Eq.trans ?_ (arr_a m c k f)
  refine Cert.FfnIdeal.RefValue.read_at (V m c main_v0) _ _ (Fin.forall_fin_two.2 ⟨?_, ?_⟩)
  · show win0_2.index t 0 * 1024 + 1 * k.val = k.val; omega
  · show win0_2.index t 1 * 2816 + 1 * f.val = f.val; omega

theorem blk3 (c : Dev nD) (t : Fin cfg0.N) (k : Fin 1024) (f : Fin 2816) : iblk m c 3 t (ix2 k f) = inB m c k f := by
  obtain ⟨-, -, -, h, -, -, -⟩ := idx_facts t
  unfold iblk
  rw [View.read_apply]
  refine Eq.trans ?_ (arr_b m c k f)
  refine Cert.FfnIdeal.RefValue.read_at (V m c main_v1) _ _ (Fin.forall_fin_two.2 ⟨?_, ?_⟩)
  · show win0_3.index t 0 * 1024 + 1 * k.val = k.val; omega
  · show win0_3.index t 1 * 2816 + 1 * f.val = f.val; omega

theorem blk4 (c : Dev nD) (t : Fin cfg0.N) (f : Fin 2816) (k : Fin 1024) : iblk m c 4 t (ix2 f k) = inW m c f k := by
  obtain ⟨-, -, -, -, h, -, -⟩ := idx_facts t
  unfold iblk
  rw [View.read_apply]
  refine Eq.trans ?_ (arr_w m c f k)
  refine Cert.FfnIdeal.RefValue.read_at (V m c main_v2) _ _ (Fin.forall_fin_two.2 ⟨?_, ?_⟩)
  · show win0_4.index t 0 * 2816 + 1 * f.val = f.val; omega
  · show win0_4.index t 1 * 1024 + 1 * k.val = k.val; omega

theorem blk5 (c : Dev nD) (t : Fin cfg0.N) (k : Fin 1024) : iblk m c 5 t (ix2 0 k) = inH m c k := by
  obtain ⟨-, -, -, -, -, h, -⟩ := idx_facts t
  unfold iblk
  rw [View.read_apply]
  refine Eq.trans ?_ (arr_h m c k)
  refine Cert.FfnIdeal.RefValue.read_at (V m c main_v4) _ _ (Fin.forall_fin_two.2 ⟨?_, ?_⟩)
  · show win0_5.index t 0 * 1 + 1 * 0 = 0; omega
  · show win0_5.index t 1 * 1024 + 1 * k.val = k.val; omega

/-- The result as one array. -/
def G (c : Dev nD) : S16384x1024.Idx → EReal := fun i =>
  norm (ffnRow (inX m c (i 0)) (inG m c) (inA m c) (inB m c) (inW m c)) (inH m c) (i 1)

/-- What a point writes back is its block of the result. -/
theorem flushed_eq (c : Dev nD) (t : Fin cfg0.N) : (dats m 0 c).flushed 6 t = (win0_6.blk t).view.read (Elt Ideal) (G m c) := by
  obtain ⟨-, -, -, -, -, -, h⟩ := idx_facts t
  rw [Value.flushed6]
  funext j
  rw [View.read_apply]
  obtain ⟨r, q, rfl⟩ : ∃ (r : Fin 512) (q : Fin 1024), j = ix2 r q := ⟨_, _, eq_ix2 j⟩
  refine Eq.trans ?_ (Cert.FfnIdeal.RefValue.read_at (G m c) (ix2 (row (at_ t) r) q) _ (Fin.forall_fin_two.2 ⟨?_, ?_⟩))
  · show out0_6 _ _ _ _ _ _ (ix2 r q) = _
    rw [out_apply]
    simp only [blk0, blk1, blk2, blk3, blk4, blk5]
    rfl
  · show t.val * 512 + r.val = win0_6.index t 0 * 512 + 1 * r.val; omega
  · show q.val = win0_6.index t 1 * 1024 + 1 * q.val; omega

/-- Every entry is some point's. -/
theorem cover (i : S16384x1024.Idx) :
    ∃ t : Fin cfg0.N, (cfg0.win 6).flush t = true ∧ i ∈ ((cfg0.win 6).blk t).view.set := by
  have h0 : (i 0).val < 16384 := (i 0).isLt
  have h1 : (i 1).val < 1024 := (i 1).isLt
  have hN : cfg0.N = 32 := N_0
  refine ⟨⟨(i 0).val / 512, by omega⟩, flush0_6 _, ?_⟩
  generalize ht : (⟨(i 0).val / 512, by omega⟩ : Fin cfg0.N) = t
  have hp : t.val = (i 0).val / 512 := by rw [← ht]
  show i ∈ ((View.whole main_v5).slice (win0_6.rect t)).set
  rw [View.set_slice_whole, Rect.mem_set_unit]
  obtain ⟨-, -, -, -, -, -, h⟩ := idx_facts t
  intro a
  match a with
  | ⟨0, _⟩ => show win0_6.index t 0 * 512 ≤ (i 0).val ∧ (i 0).val < win0_6.index t 0 * 512 + 512; omega
  | ⟨1, _⟩ => show win0_6.index t 1 * 1024 ≤ (i 1).val ∧ (i 1).val < win0_6.index t 1 * 1024 + 1024; omega

/-- The run: the result, and the arguments left as they were. -/
theorem run : θ_run defs (onTc (τ := τ) (main (F := Ideal))) ⟨m, fun _ => 0, ρ⟩ fun r => ∀ c : Dev nD,
      r.2.mem ((c : Thread nD τ).loc main_v5) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c =>
      ⟨(h c).1.trans ((dats m 0 c).arrAt_eq_of_cover 6 (G m c) (fun t _ => flushed_eq m c t) cover), (h c).2⟩)
    (Value.run_blocks m ρ)

end Cert.FfnFinalIdeal.RefValue

end
-- ==== Proof.Ffn.Ref.lean ====
/-
  The plain feed-forward block: its result, read index by index, is the row of `Ffn/Spec`.
-/
module

public import proofs.«01_k».proof.Proof.Ffn.Spec
public import proofs.«01_k».proof.Proof.Gen.FfnRefIdeal.Run
public import proofs.«01_k».proof.Proof.Gen.FfnRefIdeal.Read
public import Idealize.ShloMosaic.Lib.Pointwise

@[expose] public section

set_option maxRecDepth 16384

noncomputable section

namespace Cert.FfnRefIdeal.RefValue

open Idealize.ShloMosaic Idealize.ShloMosaic.TcCoe Cert.FfnRefIdeal Cert.FfnRefIdeal.Read Cert.Ffn.Spec

/-- The word of the number one. -/
theorem one_f32 : Ideal.ofBits .f32 0x3F800000#32 = 1 := by
  simp [Ideal.ofBits, Ideal.ieee, -EReal.coe_mul]; norm_num

/-- The normed input. -/
theorem normed (x : S16384x1024.Idx → EReal) (g : S1024.Idx → EReal) (r : Fin 16384) (k : Fin 1024) :
    val_main_v12 (F := Ideal) x g (ix2 r k) = norm (fun k => x (ix2 r k)) (fun k => g (ix1 k)) k := by
  pointwise [val_main_v12, val_main_v11, val_main_v10, val_main_v9, val_main_v8, val_main_v7, val_main_v6, val_main_v5,
    val_main_v4, val_main_v3, val_main_v2, val_main_v1, val_main_v0, val_main_cst, val_main_cst_0, val_main_cst_1]
  rfl

/-- The result. -/
theorem r18 (x : S16384x1024.Idx → EReal) (g : S1024.Idx → EReal) (a b : S1024x2816.Idx → EReal) (w : S2816x1024.Idx → EReal)
    (r : Fin 16384) (q : Fin 1024) :
    val_main_v18 (F := Ideal) x g a b w (ix2 r q) =
      ffnRow (fun k => x (ix2 r k)) (fun k => g (ix1 k)) (fun k f => a (ix2 k f)) (fun k f => b (ix2 k f)) (fun f k => w (ix2 f k)) q := by
  have hn := fun r k => normed x g r k
  unfold val_main_v18 val_main_v17 val_main_v16 val_main_v15 val_main_v14 val_main_call0_v5 val_main_call0_v3 val_main_call0_v1 val_main_call0_v0 val_main_v13
  generalize val_main_v12 (F := Ideal) x g = n at hn ⊢
  pointwise [val_main_call0_v4, val_main_call0_v2, val_main_call0_cst, val_main_call0_cst_0]
  simp only [one_f32, hn]
  rfl

end Cert.FfnRefIdeal.RefValue

end
-- ==== Proof.Ffn.RefFinal.lean ====
/-
  The plain feed-forward block followed by the model's last norm: its result, read index by index, is the normed row of `Ffn/Spec`.
-/
module

public import proofs.«01_k».proof.Proof.Ffn.Ref
public import proofs.«01_k».proof.Proof.Gen.FfnFinalRefIdeal.Run
public import proofs.«01_k».proof.Proof.Gen.FfnFinalRefIdeal.Read
public import Idealize.ShloMosaic.Lib.Pointwise

@[expose] public section

set_option maxRecDepth 16384

noncomputable section

namespace Cert.FfnFinalRefIdeal.RefValue

open Idealize.ShloMosaic Idealize.ShloMosaic.TcCoe Cert.FfnFinalRefIdeal Cert.FfnFinalRefIdeal.Read Cert.Ffn.Spec

/-- Up to the norm the two programs compute the same array. -/
theorem v18_eq : @val_main_v18 = @Cert.FfnRefIdeal.Read.val_main_v18 := rfl

/-- The result. -/
theorem r31 (x : S16384x1024.Idx → EReal) (g : S1024.Idx → EReal) (a b : S1024x2816.Idx → EReal) (w : S2816x1024.Idx → EReal)
    (h : S1024.Idx → EReal) (r : Fin 16384) (q : Fin 1024) :
    val_main_v31 (F := Ideal) x g a b w h (ix2 r q) =
      norm (ffnRow (fun k => x (ix2 r k)) (fun k => g (ix1 k)) (fun k f => a (ix2 k f)) (fun k f => b (ix2 k f))
        (fun f k => w (ix2 f k))) (fun k => h (ix1 k)) q := by
  have hn : (fun q => val_main_v18 (F := Ideal) x g a b w (ix2 r q)) = _ :=
    funext fun q => (congrFun (congrFun (congrFun (congrFun (congrFun (congrFun (congrFun (congrFun v18_eq Ideal) _) x) g) a) b) w) (ix2 r q)).trans
      (Cert.FfnRefIdeal.RefValue.r18 x g a b w r q)
  rw [← hn]
  unfold val_main_v31 val_main_v28 val_main_v27 val_main_v26 val_main_v25 val_main_v23 val_main_v21 val_main_v20 val_main_v19
  generalize val_main_v18 (F := Ideal) x g a b w = n
  pointwise [val_main_v30, val_main_v29, val_main_v24, val_main_v22, val_main_cst_2, val_main_cst_3, val_main_cst_4]
  rfl

end Cert.FfnFinalRefIdeal.RefValue

end
-- ==== Proof.Ffn.KernelFinalS.lean ====
/-
  The feed-forward kernel with the model's last norm at the sample's rows: its result array, read index by index, is the normed row of
  `Ffn/Spec`.
-/
module

public import proofs.«01_k».proof.Proof.Ffn.Kernel
public import proofs.«01_k».proof.Proof.Gen.FfnFinalSIdeal.Value
public import Idealize.ShloMosaic.Lib.Pipeline.Value
public import Idealize.ShloMosaic.Lib.Pointwise

@[expose] public section

set_option maxRecDepth 16384

noncomputable section

namespace Cert.FfnFinalSIdeal.RefValue

open Idealize.ShloMosaic Idealize.ShloMosaic.TcCoe Idealize.SL.Sem Cert.FfnFinalSIdeal Cert.FfnFinalSIdeal.Gen Cert.Ffn.Spec
open Idealize.ShloMosaic.Pipeline (Dat)

/-- One payload is the block's row, entry by entry. -/
theorem pay2_apply (x : Vec Ideal S256x1024 .f32) (g : Vec Ideal S1x1024 .f32) (a b : Vec Ideal S1024x2816 .bf16)
    (w : Vec Ideal S2816x1024 .bf16) (r : Fin 256) (q : Fin 1024) :
    k0_pay2 x g a b w (ix2 r q)
      = ffnRow (fun k => x (ix2 r k)) (fun k => g (ix2 0 k)) (fun k f => a (ix2 k f)) (fun k f => b (ix2 k f))
        (fun f k => w (ix2 f k)) q := by
  pointwise [k0_pay2]
  rfl

/-- The others norm its rows. -/
theorem pay_apply (x : Vec Ideal S256x1024 .f32) (g h : Vec Ideal S1x1024 .f32) (a b : Vec Ideal S1024x2816 .bf16)
    (w : Vec Ideal S2816x1024 .bf16) (r : Fin 256) (q : Fin 1024) :
    k0_pay1 (k0_pay2 x g a b w) (k0_pay3 h) (k0_pay4 x g a b w) (k0_pay5 (F := Ideal)) (ix2 r q)
      = norm (ffnRow (fun k => x (ix2 r k)) (fun k => g (ix2 0 k)) (fun k f => a (ix2 k f)) (fun k f => b (ix2 k f))
        (fun f k => w (ix2 f k))) (fun k => h (ix2 0 k)) q := by
  have hy := fun q => pay2_apply x g a b w r q
  unfold k0_pay4
  generalize k0_pay2 (F := Ideal) x g a b w = y at hy ⊢
  refine Eq.trans (b := norm (fun k => y (ix2 r k)) (fun k => h (ix2 0 k)) q) ?_ (congrArg (fun f => norm f (fun k => h (ix2 0 k)) q) (funext hy))
  pointwise [k0_pay1, k0_pay3, k0_pay5]
  rfl

/-- The body's store, entry by entry. -/
theorem out_apply (x0 : Vec Ideal S256x1024 .f32) (x1 : Vec Ideal S1x1024 .f32) (x2 x3 : Vec Ideal S1024x2816 .bf16)
    (x4 : Vec Ideal S2816x1024 .bf16) (x5 : Vec Ideal S1x1024 .f32) (r : Fin 256) (q : Fin 1024) :
    out0_6 x0 x1 x2 x3 x4 x5 (ix2 r q)
      = norm (ffnRow (fun k => x0 (ix2 r k)) (fun k => x1 (ix2 0 k)) (fun k f => x2 (ix2 k f)) (fun k f => x3 (ix2 k f))
        (fun f k => x4 (ix2 f k))) (fun k => x5 (ix2 0 k)) q := by
  have hz' : (![0, 0] : Fin 2 → Nat) = fun _ => 0 := funext fun a => by fin_cases a <;> rfl
  unfold out0_6
  rw [View.canon_unit_zero hz']
  simp only [View.ld_unit_zero (S := S256x1024) hz', View.ld_unit_zero (S := S1x1024) hz', View.ld_unit_zero (S := S1024x2816) hz',
    View.ld_unit_zero (S := S2816x1024) hz']
  exact pay_apply _ _ _ _ _ _ _ _

variable (m : (ℓ : Loc nD τ sig) → Buf (Elt Ideal) ℓ) (ρ : Dev nD → PrngReg)

/-- The input, the gain and the three weights the run is launched with, as functions of their coordinates. -/
abbrev inX (c : Dev nD) : Fin 256 → Fin 1024 → EReal := fun r k => m ((c : Thread nD τ).loc main_arg0) (ix2 r k)
abbrev inG (c : Dev nD) : Fin 1024 → EReal := fun k => m ((c : Thread nD τ).loc main_arg1) (ix1 k)
abbrev inA (c : Dev nD) : Fin 1024 → Fin 2816 → EReal := fun k f => m ((c : Thread nD τ).loc main_arg2) (ix2 k f)
abbrev inB (c : Dev nD) : Fin 1024 → Fin 2816 → EReal := fun k f => m ((c : Thread nD τ).loc main_arg3) (ix2 k f)
abbrev inW (c : Dev nD) : Fin 2816 → Fin 1024 → EReal := fun f k => m ((c : Thread nD τ).loc main_arg4) (ix2 f k)
abbrev inH (c : Dev nD) : Fin 1024 → EReal := fun k => m ((c : Thread nD τ).loc main_arg5) (ix1 k)

/-- Where each grid point reads and writes. -/
theorem idx_facts : ∀ t : Fin cfg0.N,
    (win0_0.index t 0 = t.val ∧ win0_0.index t 1 = 0) ∧ (win0_1.index t 0 = 0 ∧ win0_1.index t 1 = 0)
    ∧ (win0_2.index t 0 = 0 ∧ win0_2.index t 1 = 0) ∧ (win0_3.index t 0 = 0 ∧ win0_3.index t 1 = 0)
    ∧ (win0_4.index t 0 = 0 ∧ win0_4.index t 1 = 0)
    ∧ (win0_5.index t 0 = 0 ∧ win0_5.index t 1 = 0) ∧ (win0_6.index t 0 = t.val ∧ win0_6.index t 1 = 0) :=
  (by decide +kernel : ∀ t : Fin grid0.N, _)

/-- The arrays the windows read are the arguments, a change of float format being the identity here. -/
theorem arr_a (c : Dev nD) (k : Fin 1024) (f : Fin 2816) : V m c main_v0 (ix2 k f) = inA m c k f := by
  have e : V m c main_v0 = truncf (F := Ideal) .bf16 (m ((c : Thread nD τ).loc main_arg2)) bitsLt_bf16_f32 := by
    unfold_abbrev_sides; after_results
  rw [e]; rfl

theorem arr_b (c : Dev nD) (k : Fin 1024) (f : Fin 2816) : V m c main_v1 (ix2 k f) = inB m c k f := by
  have e : V m c main_v1 = truncf (F := Ideal) .bf16 (m ((c : Thread nD τ).loc main_arg3)) bitsLt_bf16_f32 := by
    unfold_abbrev_sides; after_results
  rw [e]; rfl

theorem arr_w (c : Dev nD) (f : Fin 2816) (k : Fin 1024) : V m c main_v2 (ix2 f k) = inW m c f k := by
  have e : V m c main_v2 = truncf (F := Ideal) .bf16 (m ((c : Thread nD τ).loc main_arg4)) bitsLt_bf16_f32 := by
    unfold_abbrev_sides; after_results
  rw [e]; rfl

theorem arr_g (c : Dev nD) (k : Fin 1024) : V m c main_v3 (ix2 0 k) = inG m c k := by
  have e : V m c main_v3 = shapeCast S1x1024 (m ((c : Thread nD τ).loc main_arg1)) shapeCasts_S1024_S1x1024 := by
    unfold_abbrev_sides; after_results; rfl
  rw [e]
  show _ = m ((c : Thread nD τ).loc main_arg1) (ix1 k)
  generalize m ((c : Thread nD τ).loc main_arg1) = z
  pointwise []

theorem arr_h (c : Dev nD) (k : Fin 1024) : V m c main_v4 (ix2 0 k) = inH m c k := by
  have e : V m c main_v4 = shapeCast S1x1024 (m ((c : Thread nD τ).loc main_arg5)) shapeCasts_S1024_S1x1024 := by
    unfold_abbrev_sides; after_results; rfl
  rw [e]
  show _ = m ((c : Thread nD τ).loc main_arg5) (ix1 k)
  generalize m ((c : Thread nD τ).loc main_arg5) = z
  pointwise []

/-- The row of the input a row of a grid point's block is. -/
def at_ (t : Fin cfg0.N) (r : Fin 256) : Fin 256 :=
  ⟨t.val * 256 + r.val, by have : t.val < 1 := lt_of_lt_of_eq t.isLt N_0; omega⟩

/-- What a grid point reads: its rows of the input, and the whole gains and weights. -/
theorem blk0 (c : Dev nD) (t : Fin cfg0.N) (r : Fin 256) (k : Fin 1024) : iblk m c 0 t (ix2 r k) = inX m c (at_ t r) k := by
  obtain ⟨h, -, -, -, -, -, -⟩ := idx_facts t
  unfold iblk
  rw [View.read_apply]
  refine Eq.trans ?_ (congrFun (V_main_arg0 m c) (ix2 (at_ t r) k))
  refine Cert.FfnIdeal.RefValue.read_at (V m c main_arg0) _ _ (Fin.forall_fin_two.2 ⟨?_, ?_⟩)
  · show win0_0.index t 0 * 256 + 1 * r.val = t.val * 256 + r.val; omega
  · show win0_0.index t 1 * 1024 + 1 * k.val = k.val; omega

theorem blk1 (c : Dev nD) (t : Fin cfg0.N) (k : Fin 1024) : iblk m c 1 t (ix2 0 k) = inG m c k := by
  obtain ⟨-, h, -, -, -, -, -⟩ := idx_facts t
  unfold iblk
  rw [View.read_apply]
  refine Eq.trans ?_ (arr_g m c k)
  refine Cert.FfnIdeal.RefValue.read_at (V m c main_v3) _ _ (Fin.forall_fin_two.2 ⟨?_, ?_⟩)
  · show win0_1.index t 0 * 1 + 1 * 0 = 0; omega
  · show win0_1.index t 1 * 1024 + 1 * k.val = k.val; omega

theorem blk2 (c : Dev nD) (t : Fin cfg0.N) (k : Fin 1024) (f : Fin 2816) : iblk m c 2 t (ix2 k f) = inA m c k f := by
  obtain ⟨-, -, h, -, -, -, -⟩ := idx_facts t
  unfold iblk
  rw [View.read_apply]
  refine Eq.trans ?_ (arr_a m c k f)
  refine Cert.FfnIdeal.RefValue.read_at (V m c main_v0) _ _ (Fin.forall_fin_two.2 ⟨?_, ?_⟩)
  · show win0_2.index t 0 * 1024 + 1 * k.val = k.val; omega
  · show win0_2.index t 1 * 2816 + 1 * f.val = f.val; omega

theorem blk3 (c : Dev nD) (t : Fin cfg0.N) (k : Fin 1024) (f : Fin 2816) : iblk m c 3 t (ix2 k f) = inB m c k f := by
  obtain ⟨-, -, -, h, -, -, -⟩ := idx_facts t
  unfold iblk
  rw [View.read_apply]
  refine Eq.trans ?_ (arr_b m c k f)
  refine Cert.FfnIdeal.RefValue.read_at (V m c main_v1) _ _ (Fin.forall_fin_two.2 ⟨?_, ?_⟩)
  · show win0_3.index t 0 * 1024 + 1 * k.val = k.val; omega
  · show win0_3.index t 1 * 2816 + 1 * f.val = f.val; omega

theorem blk4 (c : Dev nD) (t : Fin cfg0.N) (f : Fin 2816) (k : Fin 1024) : iblk m c 4 t (ix2 f k) = inW m c f k := by
  obtain ⟨-, -, -, -, h, -, -⟩ := idx_facts t
  unfold iblk
  rw [View.read_apply]
  refine Eq.trans ?_ (arr_w m c f k)
  refine Cert.FfnIdeal.RefValue.read_at (V m c main_v2) _ _ (Fin.forall_fin_two.2 ⟨?_, ?_⟩)
  · show win0_4.index t 0 * 2816 + 1 * f.val = f.val; omega
  · show win0_4.index t 1 * 1024 + 1 * k.val = k.val; omega

theorem blk5 (c : Dev nD) (t : Fin cfg0.N) (k : Fin 1024) : iblk m c 5 t (ix2 0 k) = inH m c k := by
  obtain ⟨-, -, -, -, -, h, -⟩ := idx_facts t
  unfold iblk
  rw [View.read_apply]
  refine Eq.trans ?_ (arr_h m c k)
  refine Cert.FfnIdeal.RefValue.read_at (V m c main_v4) _ _ (Fin.forall_fin_two.2 ⟨?_, ?_⟩)
  · show win0_5.index t 0 * 1 + 1 * 0 = 0; omega
  · show win0_5.index t 1 * 1024 + 1 * k.val = k.val; omega

/-- The result as one array. -/
def G (c : Dev nD) : S256x1024.Idx → EReal := fun i =>
  norm (ffnRow (inX m c (i 0)) (inG m c) (inA m c) (inB m c) (inW m c)) (inH m c) (i 1)

/-- What a point writes back is its block of the result. -/
theorem flushed_eq (c : Dev nD) (t : Fin cfg0.N) : (dats m 0 c).flushed 6 t = (win0_6.blk t).view.read (Elt Ideal) (G m c) := by
  obtain ⟨-, -, -, -, -, -, h⟩ := idx_facts t
  rw [Value.flushed6]
  funext j
  rw [View.read_apply]
  obtain ⟨r, q, rfl⟩ : ∃ (r : Fin 256) (q : Fin 1024), j = ix2 r q := ⟨_, _, eq_ix2 j⟩
  refine Eq.trans ?_ (Cert.FfnIdeal.RefValue.read_at (G m c) (ix2 (at_ t r) q) _ (Fin.forall_fin_two.2 ⟨?_, ?_⟩))
  · show out0_6 _ _ _ _ _ _ (ix2 r q) = _
    rw [out_apply]
    simp only [blk0, blk1, blk2, blk3, blk4, blk5]
    rfl
  · show t.val * 256 + r.val = win0_6.index t 0 * 256 + 1 * r.val; omega
  · show q.val = win0_6.index t 1 * 1024 + 1 * q.val; omega

/-- Every entry is some point's. -/
theorem cover (i : S256x1024.Idx) :
    ∃ t : Fin cfg0.N, (cfg0.win 6).flush t = true ∧ i ∈ ((cfg0.win 6).blk t).view.set := by
  have h0 : (i 0).val < 256 := (i 0).isLt
  have h1 : (i 1).val < 1024 := (i 1).isLt
  have hN : cfg0.N = 1 := N_0
  refine ⟨⟨(i 0).val / 256, by omega⟩, flush0_6 _, ?_⟩
  generalize ht : (⟨(i 0).val / 256, by omega⟩ : Fin cfg0.N) = t
  have hp : t.val = (i 0).val / 256 := by rw [← ht]
  show i ∈ ((View.whole main_v5).slice (win0_6.rect t)).set
  rw [View.set_slice_whole, Rect.mem_set_unit]
  obtain ⟨-, -, -, -, -, -, h⟩ := idx_facts t
  intro a
  match a with
  | ⟨0, _⟩ => show win0_6.index t 0 * 256 ≤ (i 0).val ∧ (i 0).val < win0_6.index t 0 * 256 + 256; omega
  | ⟨1, _⟩ => show win0_6.index t 1 * 1024 ≤ (i 1).val ∧ (i 1).val < win0_6.index t 1 * 1024 + 1024; omega

/-- The run: the result, and the arguments left as they were. -/
theorem run : θ_run defs (onTc (τ := τ) (main (F := Ideal))) ⟨m, fun _ => 0, ρ⟩ fun r => ∀ c : Dev nD,
      r.2.mem ((c : Thread nD τ).loc main_v5) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c =>
      ⟨(h c).1.trans ((dats m 0 c).arrAt_eq_of_cover 6 (G m c) (fun t _ => flushed_eq m c t) cover), (h c).2⟩)
    (Value.run_blocks m ρ)

end Cert.FfnFinalSIdeal.RefValue

end
-- ==== Proof.Ffn.RefFinalS.lean ====
/-
  The plain feed-forward block followed by the model's last norm, at the sample's rows: its result, read index by index, is the normed row of `Ffn/Spec`.
-/
module

public import proofs.«01_k».proof.Proof.Ffn.Ref
public import proofs.«01_k».proof.Proof.Gen.FfnFinalSRefIdeal.Run
public import proofs.«01_k».proof.Proof.Gen.FfnFinalSRefIdeal.Read
public import Idealize.ShloMosaic.Lib.Pointwise

@[expose] public section

set_option maxRecDepth 16384

noncomputable section

namespace Cert.FfnFinalSRefIdeal.RefValue

open Idealize.ShloMosaic Idealize.ShloMosaic.TcCoe Cert.FfnFinalSRefIdeal Cert.FfnFinalSRefIdeal.Read Cert.Ffn.Spec

/-- The normed input. -/
theorem normed (x : S256x1024.Idx → EReal) (g : S1024.Idx → EReal) (r : Fin 256) (k : Fin 1024) :
    val_main_v12 (F := Ideal) x g (ix2 r k) = norm (fun k => x (ix2 r k)) (fun k => g (ix1 k)) k := by
  pointwise [val_main_v12, val_main_v11, val_main_v10, val_main_v9, val_main_v8, val_main_v7, val_main_v6, val_main_v5,
    val_main_v4, val_main_v3, val_main_v2, val_main_v1, val_main_v0, val_main_cst, val_main_cst_0, val_main_cst_1]
  rfl

/-- The result before the last norm. -/
theorem r18 (x : S256x1024.Idx → EReal) (g : S1024.Idx → EReal) (a b : S1024x2816.Idx → EReal) (w : S2816x1024.Idx → EReal)
    (r : Fin 256) (q : Fin 1024) :
    val_main_v18 (F := Ideal) x g a b w (ix2 r q) =
      ffnRow (fun k => x (ix2 r k)) (fun k => g (ix1 k)) (fun k f => a (ix2 k f)) (fun k f => b (ix2 k f)) (fun f k => w (ix2 f k)) q := by
  have hn := fun r k => normed x g r k
  unfold val_main_v18 val_main_v17 val_main_v16 val_main_v15 val_main_v14 val_main_call0_v5 val_main_call0_v3 val_main_call0_v1 val_main_call0_v0 val_main_v13
  generalize val_main_v12 (F := Ideal) x g = n at hn ⊢
  pointwise [val_main_call0_v4, val_main_call0_v2, val_main_call0_cst, val_main_call0_cst_0]
  simp only [Cert.FfnRefIdeal.RefValue.one_f32, hn]
  rfl

/-- The result. -/
theorem r31 (x : S256x1024.Idx → EReal) (g : S1024.Idx → EReal) (a b : S1024x2816.Idx → EReal) (w : S2816x1024.Idx → EReal)
    (h : S1024.Idx → EReal) (r : Fin 256) (q : Fin 1024) :
    val_main_v31 (F := Ideal) x g a b w h (ix2 r q) =
      norm (ffnRow (fun k => x (ix2 r k)) (fun k => g (ix1 k)) (fun k f => a (ix2 k f)) (fun k f => b (ix2 k f))
        (fun f k => w (ix2 f k))) (fun k => h (ix1 k)) q := by
  have hn : (fun q => val_main_v18 (F := Ideal) x g a b w (ix2 r q)) = _ :=
    funext fun q => r18 x g a b w r q
  rw [← hn]
  unfold val_main_v31 val_main_v28 val_main_v27 val_main_v26 val_main_v25 val_main_v23 val_main_v21 val_main_v20 val_main_v19
  generalize val_main_v18 (F := Ideal) x g a b w = n
  pointwise [val_main_v30, val_main_v29, val_main_v24, val_main_v22, val_main_cst_2, val_main_cst_3, val_main_cst_4]
  rfl

end Cert.FfnFinalSRefIdeal.RefValue

end
-- ==== Proof.Ffn.Claims.lean ====
/-
  The feed-forward block, without and with the model's last norm: the kernel and the plain program leave the same array.
-/
module

public import proofs.«01_k».proof.Defs
public import proofs.«01_k».proof.Proof.Ffn.KernelFinal
public import proofs.«01_k».proof.Proof.Ffn.RefFinal
public import proofs.«01_k».proof.Proof.Ffn.KernelFinalS
public import proofs.«01_k».proof.Proof.Ffn.RefFinalS
public import Idealize.ShloMosaic.Adequacy
public import Idealize.ShloMosaic.Init

@[expose] public section

noncomputable section

namespace Cert.Ffn.Spec

open Idealize.ShloMosaic Idealize.ShloMosaic.TcCoe Idealize.SL.Sem

/-- The plain program runs, leaves its arguments as they were and every semaphore at zero. -/
theorem frame : Cert.quiescent_FfnRefIdeal (hFfnRefIdeal := Cert.FfnRefIdeal.Gen.facts) := fun m ρ _ =>
  (θ_run _ _ _).mono (fun r h => ⟨fun c => (h c).2, sem_eq_zero_of_no_sems (by decide) r.2⟩)
    (Cert.FfnRefIdeal.Value.run (F := Ideal) m ρ)

/-- The kernel's result is the plain program's. -/
theorem values : Cert.algebraic_FfnIdeal_FfnRefIdeal (hFfnIdeal := Cert.FfnIdeal.Gen.facts)
    (hFfnRefIdeal := Cert.FfnRefIdeal.Gen.facts) := by
  intro m ρ m' ρ' _ hagree
  refine ⟨fun c => Cert.FfnIdeal.RefValue.G m c, Cert.FfnIdeal.RefValue.run m ρ,
    (θ_run _ _ _).mono (fun r h c => ⟨?_, (h c).2⟩) (Cert.FfnRefIdeal.Value.run (F := Ideal) m' ρ')⟩
  refine (h c).1.trans ((Cert.FfnRefIdeal.Read.val_main_v18_eq (F := Ideal) _ _ _ _ _).trans ?_)
  obtain ⟨h0, h1, h2, h3, h4, h5⟩ := hagree c
  rw [h0, h1, h2, h3, h4]
  refine funext fun i => ?_
  obtain ⟨r, q, rfl⟩ : ∃ (r : Fin 16384) (q : Fin 1024), i = ix2 r q := ⟨_, _, eq_ix2 i⟩
  exact Cert.FfnRefIdeal.RefValue.r18 _ _ _ _ _ r q

/-- The plain program runs, leaves its arguments as they were and every semaphore at zero. -/
theorem frameFinal : Cert.quiescent_FfnFinalRefIdeal (hFfnFinalRefIdeal := Cert.FfnFinalRefIdeal.Gen.facts) := fun m ρ _ =>
  (θ_run _ _ _).mono (fun r h => ⟨fun c => (h c).2, sem_eq_zero_of_no_sems (by decide) r.2⟩)
    (Cert.FfnFinalRefIdeal.Value.run (F := Ideal) m ρ)

/-- The kernel's result is the plain program's. -/
theorem valuesFinal : Cert.algebraic_FfnFinalIdeal_FfnFinalRefIdeal (hFfnFinalIdeal := Cert.FfnFinalIdeal.Gen.facts)
    (hFfnFinalRefIdeal := Cert.FfnFinalRefIdeal.Gen.facts) := by
  intro m ρ m' ρ' _ hagree
  refine ⟨fun c => Cert.FfnFinalIdeal.RefValue.G m c, Cert.FfnFinalIdeal.RefValue.run m ρ,
    (θ_run _ _ _).mono (fun r h c => ⟨?_, (h c).2⟩) (Cert.FfnFinalRefIdeal.Value.run (F := Ideal) m' ρ')⟩
  refine (h c).1.trans ((Cert.FfnFinalRefIdeal.Read.val_main_v31_eq m' c).trans ?_)
  obtain ⟨h0, h1, h2, h3, h4, h5⟩ := hagree c
  rw [h0, h1, h2, h3, h4, h5]
  refine funext fun i => ?_
  obtain ⟨r, q, rfl⟩ : ∃ (r : Fin 16384) (q : Fin 1024), i = ix2 r q := ⟨_, _, eq_ix2 i⟩
  exact Cert.FfnFinalRefIdeal.RefValue.r31 _ _ _ _ _ _ r q

/-- The plain program runs, leaves its arguments as they were and every semaphore at zero. -/
theorem frameFinalS : Cert.quiescent_FfnFinalSRefIdeal (hFfnFinalSRefIdeal := Cert.FfnFinalSRefIdeal.Gen.facts) := fun m ρ _ =>
  (θ_run _ _ _).mono (fun r h => ⟨fun c => (h c).2, sem_eq_zero_of_no_sems (by decide) r.2⟩)
    (Cert.FfnFinalSRefIdeal.Value.run (F := Ideal) m ρ)

/-- The kernel's result is the plain program's. -/
theorem valuesFinalS : Cert.algebraic_FfnFinalSIdeal_FfnFinalSRefIdeal (hFfnFinalSIdeal := Cert.FfnFinalSIdeal.Gen.facts)
    (hFfnFinalSRefIdeal := Cert.FfnFinalSRefIdeal.Gen.facts) := by
  intro m ρ m' ρ' _ hagree
  refine ⟨fun c => Cert.FfnFinalSIdeal.RefValue.G m c, Cert.FfnFinalSIdeal.RefValue.run m ρ,
    (θ_run _ _ _).mono (fun r h c => ⟨?_, (h c).2⟩) (Cert.FfnFinalSRefIdeal.Value.run (F := Ideal) m' ρ')⟩
  refine (h c).1.trans ((Cert.FfnFinalSRefIdeal.Read.val_main_v31_eq m' c).trans ?_)
  obtain ⟨h0, h1, h2, h3, h4, h5⟩ := hagree c
  rw [h0, h1, h2, h3, h4, h5]
  refine funext fun i => ?_
  obtain ⟨r, q, rfl⟩ : ∃ (r : Fin 256) (q : Fin 1024), i = ix2 r q := ⟨_, _, eq_ix2 i⟩
  exact Cert.FfnFinalSRefIdeal.RefValue.r31 _ _ _ _ _ _ r q

end Cert.Ffn.Spec

end
-- ==== Proof.Out.Claims.lean ====
/-
  The output projection: the kernel and the plain program leave the same array, the residual plus a product.
-/
module

public import proofs.«01_k».proof.Defs
public import proofs.«01_k».proof.Proof.Gen.OutIdeal.Value
public import proofs.«01_k».proof.Proof.Gen.OutRefIdeal.Run
public import proofs.«01_k».proof.Proof.Gen.OutRefIdeal.Read
public import Idealize.ShloMosaic.Lib.Pipeline.Value
public import Idealize.ShloMosaic.Lib.Pointwise
public import Idealize.ShloMosaic.Adequacy
public import Idealize.ShloMosaic.Init

@[expose] public section

set_option maxRecDepth 16384

noncomputable section

namespace Cert.OutIdeal.RefValue

open Idealize.ShloMosaic Idealize.ShloMosaic.TcCoe Idealize.SL.Sem Cert.OutIdeal Cert.OutIdeal.Gen
open Idealize.ShloMosaic.Pipeline (Dat)

/-- Entry `q` of row `r`: the residual plus the row's product with column `q` of the weights. -/
def entry (x : Fin 16384 → Fin 1024 → EReal) (w : Fin 1024 → Fin 1024 → EReal) (y : Fin 16384 → Fin 1024 → EReal)
    (r : Fin 16384) (q : Fin 1024) : EReal :=
  y r q + ∑ k, x r k * w k q

variable (m : (ℓ : Loc nD τ sig) → Buf (Elt Ideal) ℓ) (ρ : Dev nD → PrngReg)

/-- The three arguments the run is launched with, as functions of their coordinates. -/
abbrev inX (c : Dev nD) : Fin 16384 → Fin 1024 → EReal := fun r k => m ((c : Thread nD τ).loc main_arg0) (ix2 r k)
abbrev inW (c : Dev nD) : Fin 1024 → Fin 1024 → EReal := fun k q => m ((c : Thread nD τ).loc main_arg1) (ix2 k q)
abbrev inY (c : Dev nD) : Fin 16384 → Fin 1024 → EReal := fun r q => m ((c : Thread nD τ).loc main_arg2) (ix2 r q)

/-- The payload, entry by entry. -/
theorem pay1_apply (y x : Vec Ideal S512x1024 .f32) (w : Vec Ideal S1024x1024 .bf16) (r : Fin 512) (q : Fin 1024) :
    k0_pay1 y x w (ix2 r q) = y (ix2 r q) + ∑ k : Fin 1024, x (ix2 r k) * w (ix2 k q) := by
  pointwise [k0_pay1]

/-- The body's store. -/
theorem out_eq (x0 : Vec Ideal S512x1024 .f32) (x1 : Vec Ideal S1024x1024 .bf16) (x2 : Vec Ideal S512x1024 .f32) :
    out0_3 x0 x1 x2 = k0_pay1 x2 x0 x1 := by
  have hz' : (![0, 0] : Fin 2 → Nat) = fun _ => 0 := funext fun a => by fin_cases a <;> rfl
  unfold out0_3
  rw [View.canon_unit_zero hz']
  simp only [View.ld_unit_zero (S := S512x1024) hz', View.ld_unit_zero (S := S1024x1024) hz']

/-- Where each grid point reads and writes. -/
theorem idx_facts : ∀ t : Fin cfg0.N,
    (win0_0.index t 0 = t.val ∧ win0_0.index t 1 = 0) ∧ (win0_1.index t 0 = 0 ∧ win0_1.index t 1 = 0)
    ∧ (win0_2.index t 0 = t.val ∧ win0_2.index t 1 = 0) ∧ (win0_3.index t 0 = t.val ∧ win0_3.index t 1 = 0) :=
  (by decide +kernel : ∀ t : Fin grid0.N, _)

/-- The weights the windows read, a change of float format being the identity here. -/
theorem arr_w (c : Dev nD) (k q : Fin 1024) : V m c main_v0 (ix2 k q) = inW m c k q := by
  have e : V m c main_v0 = truncf (F := Ideal) .bf16 (m ((c : Thread nD τ).loc main_arg1)) bitsLt_bf16_f32 := by
    unfold_abbrev_sides; after_results
  rw [e]; rfl

/-- A layout read at two indices of equal coordinates. -/
theorem read_at {S : Shape} (y : S.Idx → EReal) (i j : S.Idx) (h : ∀ a, (i a).val = (j a).val) : y i = y j :=
  congrArg y (funext fun a => Fin.ext (h a))

/-- Row `r` of the `t`-th block of 512 rows. -/
def row (t : Fin cfg0.N) (r : Fin 512) : Fin 16384 :=
  ⟨t.val * 512 + r.val, by have : t.val < 32 := lt_of_lt_of_eq t.isLt N_0; omega⟩

theorem blk_x (c : Dev nD) (t : Fin cfg0.N) (r : Fin 512) (k : Fin 1024) :
    iblk m c 0 t (ix2 r k) = inX m c (row t r) k := by
  obtain ⟨h, -, -, -⟩ := idx_facts t
  unfold iblk
  rw [View.read_apply]
  refine Eq.trans ?_ (congrFun (V_main_arg0 m c) (ix2 (row t r) k))
  refine read_at (V m c main_arg0) _ _ (Fin.forall_fin_two.2 ⟨?_, ?_⟩)
  · show win0_0.index t 0 * 512 + 1 * r.val = t.val * 512 + r.val; omega
  · show win0_0.index t 1 * 1024 + 1 * k.val = k.val; omega

theorem blk_w (c : Dev nD) (t : Fin cfg0.N) (k q : Fin 1024) : iblk m c 1 t (ix2 k q) = inW m c k q := by
  obtain ⟨-, h, -, -⟩ := idx_facts t
  unfold iblk
  rw [View.read_apply]
  refine Eq.trans ?_ (arr_w m c k q)
  refine read_at (V m c main_v0) _ _ (Fin.forall_fin_two.2 ⟨?_, ?_⟩)
  · show win0_1.index t 0 * 1024 + 1 * k.val = k.val; omega
  · show win0_1.index t 1 * 1024 + 1 * q.val = q.val; omega

theorem blk_y (c : Dev nD) (t : Fin cfg0.N) (r : Fin 512) (q : Fin 1024) :
    iblk m c 2 t (ix2 r q) = inY m c (row t r) q := by
  obtain ⟨-, -, h, -⟩ := idx_facts t
  unfold iblk
  rw [View.read_apply]
  refine Eq.trans ?_ (congrFun (V_main_arg2 m c) (ix2 (row t r) q))
  refine read_at (V m c main_arg2) _ _ (Fin.forall_fin_two.2 ⟨?_, ?_⟩)
  · show win0_2.index t 0 * 512 + 1 * r.val = t.val * 512 + r.val; omega
  · show win0_2.index t 1 * 1024 + 1 * q.val = q.val; omega

/-- The result as one array. -/
def G (c : Dev nD) : S16384x1024.Idx → EReal := fun i => entry (inX m c) (inW m c) (inY m c) (i 0) (i 1)

/-- What a point writes back is its block of the result. -/
theorem flushed_eq (c : Dev nD) (t : Fin cfg0.N) :
    (dats m 0 c).flushed 3 t = (win0_3.blk t).view.read (Elt Ideal) (G m c) := by
  obtain ⟨-, -, -, h⟩ := idx_facts t
  rw [Value.flushed3, out_eq]
  funext j
  rw [View.read_apply]
  obtain ⟨r, q, rfl⟩ : ∃ (r : Fin 512) (q : Fin 1024), j = ix2 r q := ⟨_, _, eq_ix2 j⟩
  refine Eq.trans ?_ (read_at (G m c) (ix2 (row t r) q) _ (Fin.forall_fin_two.2 ⟨?_, ?_⟩))
  · show k0_pay1 _ _ _ (ix2 r q) = _
    rw [pay1_apply, blk_y]
    simp only [blk_x, blk_w]
    rfl
  · show t.val * 512 + r.val = win0_3.index t 0 * 512 + 1 * r.val; omega
  · show q.val = win0_3.index t 1 * 1024 + 1 * q.val; omega

/-- Every entry is some point's. -/
theorem cover (i : S16384x1024.Idx) :
    ∃ t : Fin cfg0.N, (cfg0.win 3).flush t = true ∧ i ∈ ((cfg0.win 3).blk t).view.set := by
  have h0 : (i 0).val < 16384 := (i 0).isLt
  have h1 : (i 1).val < 1024 := (i 1).isLt
  have hN : cfg0.N = 32 := N_0
  refine ⟨⟨(i 0).val / 512, by omega⟩, flush0_3 _, ?_⟩
  generalize ht : (⟨(i 0).val / 512, by omega⟩ : Fin cfg0.N) = t
  have hp : t.val = (i 0).val / 512 := by rw [← ht]
  show i ∈ ((View.whole main_v1).slice (win0_3.rect t)).set
  rw [View.set_slice_whole, Rect.mem_set_unit]
  obtain ⟨-, -, -, h⟩ := idx_facts t
  intro a
  match a with
  | ⟨0, _⟩ => show win0_3.index t 0 * 512 ≤ (i 0).val ∧ (i 0).val < win0_3.index t 0 * 512 + 512; omega
  | ⟨1, _⟩ => show win0_3.index t 1 * 1024 ≤ (i 1).val ∧ (i 1).val < win0_3.index t 1 * 1024 + 1024; omega

/-- The run: the result, and the arguments left as they were. -/
theorem run : θ_run defs (onTc (τ := τ) (main (F := Ideal))) ⟨m, fun _ => 0, ρ⟩ fun r => ∀ c : Dev nD,
      r.2.mem ((c : Thread nD τ).loc main_v1) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
      ⟨(h c).1.trans ((dats m 0 c).arrAt_eq_of_cover 3 (G m c) (fun t _ => flushed_eq m c t) cover), (h c).2⟩)
    (Value.run_blocks m ρ)

end Cert.OutIdeal.RefValue

namespace Cert.Out

open Idealize.ShloMosaic Idealize.ShloMosaic.TcCoe Idealize.SL.Sem

/-- The plain program's result, entry by entry. -/
theorem ref_apply (x : Cert.OutRefIdeal.S16384x1024.Idx → EReal) (w : Cert.OutRefIdeal.S1024x1024.Idx → EReal)
    (y : Cert.OutRefIdeal.S16384x1024.Idx → EReal) (r : Fin 16384) (q : Fin 1024) :
    Cert.OutRefIdeal.Read.val_main_v1 (F := Ideal) x w y (ix2 r q) =
      Cert.OutIdeal.RefValue.entry (fun r k => x (ix2 r k)) (fun k q => w (ix2 k q)) (fun r q => y (ix2 r q)) r q := by
  pointwise [Cert.OutRefIdeal.Read.val_main_v1, Cert.OutRefIdeal.Read.val_main_v0]
  rfl

/-- The plain program runs, leaves its arguments as they were and every semaphore at zero. -/
theorem frame : Cert.quiescent_OutRefIdeal (hOutRefIdeal := Cert.OutRefIdeal.Gen.facts) := fun m ρ _ =>
  (θ_run _ _ _).mono (fun r h => ⟨fun c => (h c).2, sem_eq_zero_of_no_sems (by decide) r.2⟩)
    (Cert.OutRefIdeal.Value.run (F := Ideal) m ρ)

/-- The kernel's result is the plain program's. -/
theorem values : Cert.algebraic_OutIdeal_OutRefIdeal (hOutIdeal := Cert.OutIdeal.Gen.facts)
    (hOutRefIdeal := Cert.OutRefIdeal.Gen.facts) := by
  intro m ρ m' ρ' _ hagree
  refine ⟨fun c => Cert.OutIdeal.RefValue.G m c, Cert.OutIdeal.RefValue.run m ρ,
    (θ_run _ _ _).mono (fun r h c => ⟨?_, (h c).2⟩) (Cert.OutRefIdeal.Value.run (F := Ideal) m' ρ')⟩
  refine (h c).1.trans ((Cert.OutRefIdeal.Read.val_main_v1_eq (F := Ideal) _ _ _).trans ?_)
  obtain ⟨h0, h1, h2⟩ := hagree c
  rw [h0, h1, h2]
  refine funext fun i => ?_
  obtain ⟨r, q, rfl⟩ : ∃ (r : Fin 16384) (q : Fin 1024), i = ix2 r q := ⟨_, _, eq_ix2 i⟩
  exact ref_apply _ _ _ r q

end Cert.Out

end
-- ==== Proof.Merge.Spec.lean ====
/-
  The merge of the layer's two branches at one entry, over the extended reals: three attended values weighted by their
  log-sum-exps, a head-wise normalized and gated row, and the product of both with the output weights.
-/
module

public import proofs.«01_k».proof.Pre_finite_lse
public import Idealize.ShloMosaic.PureOps.Ideal
public import Idealize.ShloMosaic.PureOps.Ideal.Laws
public import Idealize.ShloMosaic.Lib.Pointwise

@[expose] public section

noncomputable section

namespace Cert.Merge

open Idealize.ShloMosaic

/-- The unnormalized weight of a score `a` among three. -/
def wt (l0 l1 l2 a : EReal) : EReal := Ideal.exp (a - max (max l0 l1) l2)

/-- Three values weighted by the exponentials of their scores, the weights' sum divided out at the end. -/
def mix (l0 l1 l2 o0 o1 o2 : EReal) : EReal :=
  Ideal.div (wt l0 l1 l2 l0 * o0 + wt l0 l1 l2 l1 * o1 + wt l0 l1 l2 l2 * o2)
    (wt l0 l1 l2 l0 + wt l0 l1 l2 l1 + wt l0 l1 l2 l2)

/-- A number neither infinite nor minus infinite. -/
abbrev Finite (x : EReal) : Prop := x ≠ ⊤ ∧ x ≠ ⊥

/-- With finite scores a weight is a positive real. -/
theorem wt_real {l0 l1 l2 a : EReal} (h0 : Finite l0) (h1 : Finite l1) (h2 : Finite l2) (ha : Finite a) :
    ∃ c : ℝ, 0 < c ∧ wt l0 l1 l2 a = (c : EReal) := by
  lift l0 to ℝ using h0
  lift l1 to ℝ using h1
  lift l2 to ℝ using h2
  lift a to ℝ using ha
  refine ⟨Real.exp (a - max (max l0 l1) l2), Real.exp_pos _, ?_⟩
  unfold wt
  rw [← EReal.coe_strictMono.monotone.map_max, ← EReal.coe_strictMono.monotone.map_max, ← EReal.coe_sub, Ideal.exp_coe]

/-- With finite scores the weights may be divided by their sum one by one. -/
theorem mix_eq {l0 l1 l2 : EReal} (o0 o1 o2 : EReal) (h0 : Finite l0) (h1 : Finite l1) (h2 : Finite l2) :
    mix l0 l1 l2 o0 o1 o2 =
      Ideal.div (wt l0 l1 l2 l0) (wt l0 l1 l2 l0 + wt l0 l1 l2 l1 + wt l0 l1 l2 l2) * o0
      + Ideal.div (wt l0 l1 l2 l1) (wt l0 l1 l2 l0 + wt l0 l1 l2 l1 + wt l0 l1 l2 l2) * o1
      + Ideal.div (wt l0 l1 l2 l2) (wt l0 l1 l2 l0 + wt l0 l1 l2 l1 + wt l0 l1 l2 l2) * o2 := by
  unfold mix
  obtain ⟨a, ha, ea⟩ := wt_real h0 h1 h2 h0
  obtain ⟨b, hb, eb⟩ := wt_real h0 h1 h2 h1
  obtain ⟨c, hc, ec⟩ := wt_real h0 h1 h2 h2
  rw [ea, eb, ec, ← EReal.coe_add, ← EReal.coe_add]
  have hs : a + b + c ≠ 0 := by positivity
  have hn : (0 : EReal) ≤ ((1 / (a + b + c) : ℝ) : EReal) := EReal.coe_nonneg.mpr (by positivity)
  simp only [Ideal.div_coe hs]
  rw [EReal.right_distrib_of_nonneg_of_ne_top hn (EReal.coe_ne_top _),
    EReal.right_distrib_of_nonneg_of_ne_top hn (EReal.coe_ne_top _),
    mul_right_comm, mul_right_comm (b : EReal), mul_right_comm (c : EReal)]

/-- Column `i` of the head that holds column `k`. -/
def lane (k : Fin 512) (i : Fin 128) : Fin 512 := ⟨k.val / 128 * 128 + i.val, by omega⟩

/-- Column `k` of a row normalized head by head, times its gain and its gate. -/
def gated (x g z : Fin 512 → EReal) (k : Fin 512) : EReal :=
  x k * Ideal.rsqrt (Ideal.div (∑ i : Fin 128, x (lane k i) * x (lane k i)) (Ideal.ofBits .f32 0x43000000#32)
    + Ideal.ofBits .f32 0x358637BD#32) * g k * Ideal.logistic (z k)

/-- One entry of the result. -/
def entry (o0 o1 o2 l0 l1 l2 : Fin 256 → EReal) (x z g : Fin 512 → EReal) (w : Fin 768 → EReal) (y : EReal) : EReal :=
  y + (∑ k : Fin 256, mix (l0 k) (l1 k) (l2 k) (o0 k) (o1 k) (o2 k) * w (Fin.castAdd 512 k)
    + ∑ k : Fin 512, gated x g z k * w (Fin.natAdd 256 k))

/-- When a fold of conjunctions is true, so is each of its terms. -/
theorem foldl_and {ι : Type} (f : ι → BitVec 1) (l : List ι) : ∀ v : BitVec 1,
    l.foldl (fun r n => IntOp.andi r (f n)) v = 1#1 → v = 1#1 ∧ ∀ n ∈ l, f n = 1#1 := by
  have hand : ∀ a b : BitVec 1, IntOp.andi a b = 1#1 → a = 1#1 ∧ b = 1#1 := by decide
  induction l with
  | nil => intro v h; exact ⟨h, by simp⟩
  | cons a l ih =>
    intro v h
    obtain ⟨h1, h2⟩ := ih _ h
    obtain ⟨h3, h4⟩ := hand _ _ h1
    exact ⟨h3, fun n hn => (List.mem_cons.1 hn).elim (fun e => e ▸ h4) (h2 n)⟩

/-- When the conjunction over a whole array is true, so is each of its elements. -/
theorem all_of_reduce {s t u : Shape} {axes : List (Fin s.rank)} (x : s.Idx → BitVec 1) (init : u.Idx → BitVec 1)
    (h : s.ReducesTo axes t) (hu : 0 < u.numel) (ht : t.rank = 0) (j : t.Idx)
    (hr : Host.reduce IntOp.andi x init h hu j = 1#1) (i : s.Idx) : x i = 1#1 := by
  have hm := (foldl_and (fun n => x (s.rowMajor.symm n)) _ _ hr).2 (s.rowMajor i)
    (List.mem_filter.2 ⟨List.mem_finRange _, by
      have : h.drop (s.rowMajor.symm (s.rowMajor i)) = j := funext fun a => (Fin.cast ht a).elim0
      simpa using this⟩)
  simpa using hm

/-- A magnitude below infinity is a finite number's. -/
theorem finite_of_abs (x : EReal) (h : Ideal.cmp .olt (max x (-x)) (Ideal.ofBits .f32 0x7F800000#32) = 1#1) : Finite x := by
  have e : Ideal.ofBits .f32 0x7F800000#32 = ⊤ := by simp [Ideal.ofBits, Ideal.ieee, -EReal.coe_mul]
  rw [e] at h
  constructor
  · rintro rfl; simp [Ideal.cmp] at h
  · rintro rfl; simp [Ideal.cmp] at h

instance preFacts : Cert.Pre_finite_lse.Facts where
  bcast_S_S16384x256 := by decide
  reducesTo_S16384x256_S_d0_1 := by decide
  h_S_ := by decide

open Cert.Pre_finite_lse in
/-- The precondition says that all three log-sum-exps are finite. -/
theorem finite_of_pre (a0 a1 a2 l0 l1 l2 : S16384x256.Idx → EReal) (a6 : S16384x512.Idx → EReal)
    (a7 : S16384x4608.Idx → EReal) (a8 : S512.Idx → EReal) (a9 : S768x1024.Idx → EReal) (a10 : S16384x1024.Idx → EReal)
    (j : S_.Idx) (h : Cert.Pre_finite_lse.fn (F := Ideal) a0 a1 a2 l0 l1 l2 a6 a7 a8 a9 a10 j = 1#1) (i : S16384x256.Idx) :
    Finite (l0 i) ∧ Finite (l1 i) ∧ Finite (l2 i) := by
  have hand : ∀ a b : BitVec 1, IntOp.andi a b = 1#1 → a = 1#1 ∧ b = 1#1 := by decide
  obtain ⟨h01, h2⟩ := hand _ _ h
  obtain ⟨h0, h1⟩ := hand _ _ h01
  exact ⟨finite_of_abs _ (all_of_reduce _ _ _ _ rfl j h0 i), finite_of_abs _ (all_of_reduce _ _ _ _ rfl j h1 i),
    finite_of_abs _ (all_of_reduce _ _ _ _ rfl j h2 i)⟩

end Cert.Merge

end
-- ==== Proof.Merge.Kernel.lean ====
/-
  The merge of the layer's two branches: what the kernel leaves, entry by entry.
-/
module

public import proofs.«01_k».proof.Proof.Merge.Spec
public import proofs.«01_k».proof.Proof.Gen.MergeIdeal.Value
public import Idealize.ShloMosaic.Lib.Pipeline.Value
public import Idealize.ShloMosaic.Lib.Pointwise

@[expose] public section

set_option maxRecDepth 16384

noncomputable section

namespace Cert.MergeIdeal.RefValue

open Idealize.ShloMosaic Idealize.ShloMosaic.TcCoe Idealize.SL.Sem Cert.MergeIdeal Cert.MergeIdeal.Gen Cert.Merge
open Idealize.ShloMosaic.Pipeline (Dat)

/-- The weighted values, entry by entry. -/
theorem pay2_apply (l0 l1 l2 o0 o1 o2 : Vec Ideal S512x256 .f32) (r : Fin 512) (k : Fin 256) :
    k0_pay2 l0 l1 l2 o0 o1 o2 (ix2 r k)
      = mix (l0 (ix2 r k)) (l1 (ix2 r k)) (l2 (ix2 r k)) (o0 (ix2 r k)) (o1 (ix2 r k)) (o2 (ix2 r k)) := rfl

/-- The first product, entry by entry. -/
theorem pay6_apply (v : FVec Ideal S512x256 .f32) (w : Vec Ideal S256x1024 .bf16) (r : Fin 512) (q : Fin 1024) :
    k0_pay6 v w (ix2 r q) = ∑ k : Fin 256, v (ix2 r k) * w (ix2 k q) := by
  pointwise [k0_pay6]

/-- The head whose 128 columns hold column `n + d`, and the column's place among them. -/
theorem lane_facts (d : ℕ) (hd : d < 128) :
    (¬ 128 + d < 128 ∧ ¬ 256 + d < 128 ∧ ¬ 384 + d < 128) ∧ 384 + d - 128 = 256 + d ∧ 256 + d - 128 = 128 + d
      ∧ 128 + d - 128 = d := by
  omega

/-- The columns of column `h * 128 + d`'s head. -/
theorem lane_head (h : Fin 4) (d i : Fin 128) (hk : h.val * 128 + d.val < 512) :
    lane ⟨h.val * 128 + d.val, hk⟩ i = ⟨h.val * 128 + i.val, by omega⟩ :=
  Fin.ext (by show (h.val * 128 + d.val) / 128 * 128 + i.val = h.val * 128 + i.val; omega)

/-- The second product, entry by entry. -/
theorem pay7_apply (x z : Vec Ideal S512x512 .f32) (g : Vec Ideal S1x512 .f32) (w : Vec Ideal S512x1024 .bf16) (r : Fin 512)
    (q : Fin 1024) :
    k0_pay7 x (k0_pay3 x) (k0_pay4 x) (k0_pay5 x) g z w (ix2 r q)
      = ∑ k : Fin 512, gated (fun k => x (ix2 r k)) (fun k => g (ix2 0 k)) (fun k => z (ix2 r k)) k * w (ix2 k q) := by
  pointwise [k0_pay7]
  refine Finset.sum_congr rfl fun k _ => ?_
  obtain ⟨h, d, hk, rfl⟩ : ∃ (h : Fin 4) (d : Fin 128) (hk : h.val * 128 + d.val < 512), k = ⟨h.val * 128 + d.val, hk⟩ :=
    ⟨⟨k.val / 128, by omega⟩, ⟨k.val % 128, by omega⟩, by dsimp only; omega, Fin.ext (by dsimp only; omega)⟩
  unfold gated
  simp only [lane_head]
  obtain ⟨h, hlt⟩ := h
  obtain ⟨d, hd⟩ := d
  obtain ⟨⟨n1, n2, n3⟩, e1, e2, e3⟩ := lane_facts d hd
  interval_cases h
  all_goals
    simp only [Nat.zero_mul, Nat.zero_add, Nat.one_mul, Nat.reduceMul, n1, n2, n3, e1, e2, e3, hd, ↓reduceDIte]
      <;> pointwise [k0_pay3, k0_pay5, k0_pay4]

/-- A layout read at two indices of equal coordinates. -/
theorem read_at {S : Shape} (y : S.Idx → EReal) (i j : S.Idx) (h : ∀ a, (i a).val = (j a).val) : y i = y j :=
  congrArg y (funext fun a => Fin.ext (h a))

/-- The body's store, entry by entry. -/
theorem out_apply (x0 x1 x2 x3 x4 x5 : Vec Ideal S512x256 .f32) (x6 x7 : Vec Ideal S512x512 .f32) (x8 : Vec Ideal S1x512 .f32)
    (x9 : Vec Ideal S768x1024 .bf16) (x10 : Vec Ideal S512x1024 .f32) (r : Fin 512) (q : Fin 1024) :
    out0_11 x0 x1 x2 x3 x4 x5 x6 x7 x8 x9 x10 (ix2 r q)
      = entry (fun k => x0 (ix2 r k)) (fun k => x1 (ix2 r k)) (fun k => x2 (ix2 r k)) (fun k => x3 (ix2 r k))
          (fun k => x4 (ix2 r k)) (fun k => x5 (ix2 r k)) (fun k => x6 (ix2 r k)) (fun k => x7 (ix2 r k))
          (fun k => x8 (ix2 0 k)) (fun k => x9 (ix2 k q)) (x10 (ix2 r q)) := by
  have hz' : (![0, 0] : Fin 2 → Nat) = fun _ => 0 := funext fun a => by fin_cases a <;> rfl
  have wlo : ∀ k : Fin 256, View.ld x9 r0_3 (ix2 k q) = x9 (ix2 (Fin.castAdd 512 k) q) := fun k =>
    read_at x9 _ _ (Fin.forall_fin_two.2 ⟨by show 0 + 1 * k.val = k.val; omega, by show 0 + 1 * q.val = q.val; omega⟩)
  have whi : ∀ k : Fin 512, View.ld x9 r0_4 (ix2 k q) = x9 (ix2 (Fin.natAdd 256 k) q) := fun k =>
    read_at x9 _ _ (Fin.forall_fin_two.2 ⟨by show 256 + 1 * k.val = 256 + k.val; omega, by show 0 + 1 * q.val = q.val; omega⟩)
  unfold out0_11
  rw [View.canon_unit_zero hz']
  simp only [View.ld_unit_zero (S := S512x256) hz', View.ld_unit_zero (S := S512x512) hz', View.ld_unit_zero (S := S1x512) hz',
    View.ld_unit_zero (S := S512x1024) hz']
  show x10 (ix2 r q) + (k0_pay6 (F := Ideal) _ _ (ix2 r q) + k0_pay7 (F := Ideal) _ _ _ _ _ _ _ (ix2 r q)) = _
  rw [pay6_apply, pay7_apply]
  simp only [pay2_apply, wlo, whi]
  rfl

variable (m : (ℓ : Loc nD τ sig) → Buf (Elt Ideal) ℓ) (ρ : Dev nD → PrngReg)

/-- Where each grid point reads and writes. -/
theorem idx_facts : ∀ t : Fin cfg0.N,
    ((win0_0.index t 0 = t.val ∧ win0_0.index t 1 = 0) ∧ (win0_1.index t 0 = t.val ∧ win0_1.index t 1 = 0)
      ∧ (win0_2.index t 0 = t.val ∧ win0_2.index t 1 = 0))
    ∧ ((win0_3.index t 0 = t.val ∧ win0_3.index t 1 = 0) ∧ (win0_4.index t 0 = t.val ∧ win0_4.index t 1 = 0)
      ∧ (win0_5.index t 0 = t.val ∧ win0_5.index t 1 = 0))
    ∧ (win0_6.index t 0 = t.val ∧ win0_6.index t 1 = 0) ∧ (win0_7.index t 0 = t.val ∧ win0_7.index t 1 = 3)
    ∧ (win0_8.index t 0 = 0 ∧ win0_8.index t 1 = 0) ∧ (win0_9.index t 0 = 0 ∧ win0_9.index t 1 = 0)
    ∧ (win0_10.index t 0 = t.val ∧ win0_10.index t 1 = 0) ∧ (win0_11.index t 0 = t.val ∧ win0_11.index t 1 = 0) :=
  (by decide +kernel : ∀ t : Fin grid0.N, _)

/-- The output weights the windows read, a change of float format being the identity here. -/
theorem arr_w (c : Dev nD) (k : Fin 768) (q : Fin 1024) :
    V m c main_v0 (ix2 k q) = m ((c : Thread nD τ).loc main_arg9) (ix2 k q) := by
  have e : V m c main_v0 = truncf (F := Ideal) .bf16 (m ((c : Thread nD τ).loc main_arg9)) bitsLt_bf16_f32 := by
    unfold_abbrev_sides; after_results
  rw [e]; rfl

/-- The gains the windows read: the argument's entries. -/
theorem arr_g (c : Dev nD) (k : Fin 512) : V m c main_v1 (ix2 0 k) = m ((c : Thread nD τ).loc main_arg8) (ix1 k) := by
  have e : V m c main_v1 = shapeCast S1x512 (m ((c : Thread nD τ).loc main_arg8)) shapeCasts_S512_S1x512 := by
    unfold_abbrev_sides; after_results; rfl
  rw [e]
  generalize m ((c : Thread nD τ).loc main_arg8) = y
  pointwise

/-- Row `r` of the `t`-th block of 512 rows. -/
def row (t : Fin cfg0.N) (r : Fin 512) : Fin 16384 :=
  ⟨t.val * 512 + r.val, by have : t.val < 32 := lt_of_lt_of_eq t.isLt N_0; omega⟩

/-- Column `k` of the gate, in the projection's array. -/
def gate (k : Fin 512) : Fin 4608 := ⟨1536 + k.val, by omega⟩

theorem blk0 (c : Dev nD) (t : Fin cfg0.N) (r : Fin 512) (k : Fin 256) :
    iblk m c 0 t (ix2 r k) = m ((c : Thread nD τ).loc main_arg0) (ix2 (row t r) k) := by
  obtain ⟨⟨h, -, -⟩, -⟩ := idx_facts t
  unfold iblk
  rw [View.read_apply]
  refine Eq.trans ?_ (congrFun (V_main_arg0 m c) (ix2 (row t r) k))
  refine read_at (V m c main_arg0) _ _ (Fin.forall_fin_two.2 ⟨?_, ?_⟩)
  · show win0_0.index t 0 * 512 + 1 * r.val = t.val * 512 + r.val; omega
  · show win0_0.index t 1 * 256 + 1 * k.val = k.val; omega

theorem blk1 (c : Dev nD) (t : Fin cfg0.N) (r : Fin 512) (k : Fin 256) :
    iblk m c 1 t (ix2 r k) = m ((c : Thread nD τ).loc main_arg1) (ix2 (row t r) k) := by
  obtain ⟨⟨-, h, -⟩, -⟩ := idx_facts t
  unfold iblk
  rw [View.read_apply]
  refine Eq.trans ?_ (congrFun (V_main_arg1 m c) (ix2 (row t r) k))
  refine read_at (V m c main_arg1) _ _ (Fin.forall_fin_two.2 ⟨?_, ?_⟩)
  · show win0_1.index t 0 * 512 + 1 * r.val = t.val * 512 + r.val; omega
  · show win0_1.index t 1 * 256 + 1 * k.val = k.val; omega

theorem blk2 (c : Dev nD) (t : Fin cfg0.N) (r : Fin 512) (k : Fin 256) :
    iblk m c 2 t (ix2 r k) = m ((c : Thread nD τ).loc main_arg2) (ix2 (row t r) k) := by
  obtain ⟨⟨-, -, h⟩, -⟩ := idx_facts t
  unfold iblk
  rw [View.read_apply]
  refine Eq.trans ?_ (congrFun (V_main_arg2 m c) (ix2 (row t r) k))
  refine read_at (V m c main_arg2) _ _ (Fin.forall_fin_two.2 ⟨?_, ?_⟩)
  · show win0_2.index t 0 * 512 + 1 * r.val = t.val * 512 + r.val; omega
  · show win0_2.index t 1 * 256 + 1 * k.val = k.val; omega

theorem blk3 (c : Dev nD) (t : Fin cfg0.N) (r : Fin 512) (k : Fin 256) :
    iblk m c 3 t (ix2 r k) = m ((c : Thread nD τ).loc main_arg3) (ix2 (row t r) k) := by
  obtain ⟨-, ⟨h, -, -⟩, -⟩ := idx_facts t
  unfold iblk
  rw [View.read_apply]
  refine Eq.trans ?_ (congrFun (V_main_arg3 m c) (ix2 (row t r) k))
  refine read_at (V m c main_arg3) _ _ (Fin.forall_fin_two.2 ⟨?_, ?_⟩)
  · show win0_3.index t 0 * 512 + 1 * r.val = t.val * 512 + r.val; omega
  · show win0_3.index t 1 * 256 + 1 * k.val = k.val; omega

theorem blk4 (c : Dev nD) (t : Fin cfg0.N) (r : Fin 512) (k : Fin 256) :
    iblk m c 4 t (ix2 r k) = m ((c : Thread nD τ).loc main_arg4) (ix2 (row t r) k) := by
  obtain ⟨-, ⟨-, h, -⟩, -⟩ := idx_facts t
  unfold iblk
  rw [View.read_apply]
  refine Eq.trans ?_ (congrFun (V_main_arg4 m c) (ix2 (row t r) k))
  refine read_at (V m c main_arg4) _ _ (Fin.forall_fin_two.2 ⟨?_, ?_⟩)
  · show win0_4.index t 0 * 512 + 1 * r.val = t.val * 512 + r.val; omega
  · show win0_4.index t 1 * 256 + 1 * k.val = k.val; omega

theorem blk5 (c : Dev nD) (t : Fin cfg0.N) (r : Fin 512) (k : Fin 256) :
    iblk m c 5 t (ix2 r k) = m ((c : Thread nD τ).loc main_arg5) (ix2 (row t r) k) := by
  obtain ⟨-, ⟨-, -, h⟩, -⟩ := idx_facts t
  unfold iblk
  rw [View.read_apply]
  refine Eq.trans ?_ (congrFun (V_main_arg5 m c) (ix2 (row t r) k))
  refine read_at (V m c main_arg5) _ _ (Fin.forall_fin_two.2 ⟨?_, ?_⟩)
  · show win0_5.index t 0 * 512 + 1 * r.val = t.val * 512 + r.val; omega
  · show win0_5.index t 1 * 256 + 1 * k.val = k.val; omega

theorem blk6 (c : Dev nD) (t : Fin cfg0.N) (r k : Fin 512) :
    iblk m c 6 t (ix2 r k) = m ((c : Thread nD τ).loc main_arg6) (ix2 (row t r) k) := by
  obtain ⟨-, -, h, -⟩ := idx_facts t
  unfold iblk
  rw [View.read_apply]
  refine Eq.trans ?_ (congrFun (V_main_arg6 m c) (ix2 (row t r) k))
  refine read_at (V m c main_arg6) _ _ (Fin.forall_fin_two.2 ⟨?_, ?_⟩)
  · show win0_6.index t 0 * 512 + 1 * r.val = t.val * 512 + r.val; omega
  · show win0_6.index t 1 * 512 + 1 * k.val = k.val; omega

theorem blk7 (c : Dev nD) (t : Fin cfg0.N) (r k : Fin 512) :
    iblk m c 7 t (ix2 r k) = m ((c : Thread nD τ).loc main_arg7) (ix2 (row t r) (gate k)) := by
  obtain ⟨-, -, -, h, -⟩ := idx_facts t
  unfold iblk
  rw [View.read_apply]
  refine Eq.trans ?_ (congrFun (V_main_arg7 m c) (ix2 (row t r) (gate k)))
  refine read_at (V m c main_arg7) _ _ (Fin.forall_fin_two.2 ⟨?_, ?_⟩)
  · show win0_7.index t 0 * 512 + 1 * r.val = t.val * 512 + r.val; omega
  · show win0_7.index t 1 * 512 + 1 * k.val = 1536 + k.val; omega

theorem blk8 (c : Dev nD) (t : Fin cfg0.N) (k : Fin 512) :
    iblk m c 8 t (ix2 0 k) = m ((c : Thread nD τ).loc main_arg8) (ix1 k) := by
  obtain ⟨-, -, -, -, h, -⟩ := idx_facts t
  unfold iblk
  rw [View.read_apply]
  refine Eq.trans ?_ (arr_g m c k)
  refine read_at (V m c main_v1) _ _ (Fin.forall_fin_two.2 ⟨?_, ?_⟩)
  · show win0_8.index t 0 * 1 + 1 * 0 = 0; omega
  · show win0_8.index t 1 * 512 + 1 * k.val = k.val; omega

theorem blk9 (c : Dev nD) (t : Fin cfg0.N) (k : Fin 768) (q : Fin 1024) :
    iblk m c 9 t (ix2 k q) = m ((c : Thread nD τ).loc main_arg9) (ix2 k q) := by
  obtain ⟨-, -, -, -, -, h, -⟩ := idx_facts t
  unfold iblk
  rw [View.read_apply]
  refine Eq.trans ?_ (arr_w m c k q)
  refine read_at (V m c main_v0) _ _ (Fin.forall_fin_two.2 ⟨?_, ?_⟩)
  · show win0_9.index t 0 * 768 + 1 * k.val = k.val; omega
  · show win0_9.index t 1 * 1024 + 1 * q.val = q.val; omega

theorem blk10 (c : Dev nD) (t : Fin cfg0.N) (r : Fin 512) (q : Fin 1024) :
    iblk m c 10 t (ix2 r q) = m ((c : Thread nD τ).loc main_arg10) (ix2 (row t r) q) := by
  obtain ⟨-, -, -, -, -, -, h, -⟩ := idx_facts t
  unfold iblk
  rw [View.read_apply]
  refine Eq.trans ?_ (congrFun (V_main_arg10 m c) (ix2 (row t r) q))
  refine read_at (V m c main_arg10) _ _ (Fin.forall_fin_two.2 ⟨?_, ?_⟩)
  · show win0_10.index t 0 * 512 + 1 * r.val = t.val * 512 + r.val; omega
  · show win0_10.index t 1 * 1024 + 1 * q.val = q.val; omega

/-- The result as one array. -/
def G (c : Dev nD) : S16384x1024.Idx → EReal := fun i =>
  entry (fun k => m ((c : Thread nD τ).loc main_arg0) (ix2 (i 0) k)) (fun k => m ((c : Thread nD τ).loc main_arg1) (ix2 (i 0) k))
    (fun k => m ((c : Thread nD τ).loc main_arg2) (ix2 (i 0) k)) (fun k => m ((c : Thread nD τ).loc main_arg3) (ix2 (i 0) k))
    (fun k => m ((c : Thread nD τ).loc main_arg4) (ix2 (i 0) k)) (fun k => m ((c : Thread nD τ).loc main_arg5) (ix2 (i 0) k))
    (fun k => m ((c : Thread nD τ).loc main_arg6) (ix2 (i 0) k)) (fun k => m ((c : Thread nD τ).loc main_arg7) (ix2 (i 0) (gate k)))
    (fun k => m ((c : Thread nD τ).loc main_arg8) (ix1 k)) (fun k => m ((c : Thread nD τ).loc main_arg9) (ix2 k (i 1)))
    (m ((c : Thread nD τ).loc main_arg10) (ix2 (i 0) (i 1)))

/-- What a point writes back is its block of the result. -/
theorem flushed_eq (c : Dev nD) (t : Fin cfg0.N) :
    (dats m 0 c).flushed 11 t = (win0_11.blk t).view.read (Elt Ideal) (G m c) := by
  obtain ⟨-, -, -, -, -, -, -, h⟩ := idx_facts t
  rw [Value.flushed11]
  funext j
  rw [View.read_apply]
  obtain ⟨r, q, rfl⟩ : ∃ (r : Fin 512) (q : Fin 1024), j = ix2 r q := ⟨_, _, eq_ix2 j⟩
  refine Eq.trans ?_ (read_at (G m c) (ix2 (row t r) q) _ (Fin.forall_fin_two.2 ⟨?_, ?_⟩))
  · show out0_11 _ _ _ _ _ _ _ _ _ _ _ (ix2 r q) = _
    rw [out_apply]
    simp only [blk0, blk1, blk2, blk3, blk4, blk5, blk6, blk7, blk8, blk9, blk10]
    rfl
  · show t.val * 512 + r.val = win0_11.index t 0 * 512 + 1 * r.val; omega
  · show q.val = win0_11.index t 1 * 1024 + 1 * q.val; omega

/-- Every entry is some point's. -/
theorem cover (i : S16384x1024.Idx) :
    ∃ t : Fin cfg0.N, (cfg0.win 11).flush t = true ∧ i ∈ ((cfg0.win 11).blk t).view.set := by
  have h0 : (i 0).val < 16384 := (i 0).isLt
  have h1 : (i 1).val < 1024 := (i 1).isLt
  have hN : cfg0.N = 32 := N_0
  refine ⟨⟨(i 0).val / 512, by omega⟩, flush0_11 _, ?_⟩
  generalize ht : (⟨(i 0).val / 512, by omega⟩ : Fin cfg0.N) = t
  have hp : t.val = (i 0).val / 512 := by rw [← ht]
  show i ∈ ((View.whole main_v2).slice (win0_11.rect t)).set
  rw [View.set_slice_whole, Rect.mem_set_unit]
  obtain ⟨-, -, -, -, -, -, -, h⟩ := idx_facts t
  intro a
  match a with
  | ⟨0, _⟩ => show win0_11.index t 0 * 512 ≤ (i 0).val ∧ (i 0).val < win0_11.index t 0 * 512 + 512; omega
  | ⟨1, _⟩ => show win0_11.index t 1 * 1024 ≤ (i 1).val ∧ (i 1).val < win0_11.index t 1 * 1024 + 1024; omega

/-- The run: the result, and the arguments left as they were. -/
theorem run : θ_run defs (onTc (τ := τ) (main (F := Ideal))) ⟨m, fun _ => 0, ρ⟩ fun r => ∀ c : Dev nD,
      r.2.mem ((c : Thread nD τ).loc main_v2) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun _ h c =>
      ⟨(h c).1.trans ((dats m 0 c).arrAt_eq_of_cover 11 (G m c) (fun t _ => flushed_eq m c t) cover), (h c).2⟩)
    (Value.run_blocks m ρ)

end Cert.MergeIdeal.RefValue

end
-- ==== Proof.Merge.Ref.lean ====
/-
  The merge of the layer's two branches: what the plain program leaves, entry by entry, the log-sum-exps being finite.
-/
module

public import proofs.«01_k».proof.Proof.Merge.Spec
public import proofs.«01_k».proof.Proof.Gen.MergeRefIdeal.Run
public import proofs.«01_k».proof.Proof.Gen.MergeRefIdeal.Read
public import Idealize.ShloMosaic.Lib.Pointwise

@[expose] public section

set_option maxRecDepth 16384

noncomputable section

namespace Cert.MergeRefIdeal.RefValue

open Idealize.ShloMosaic Cert.MergeRefIdeal Cert.MergeRefIdeal.Read Cert.Merge

/-- Inserting a first coordinate into a rank-three index. -/
theorem lift_first {n a b c : ℕ} (h : (⟨4, ![n, a, b, c]⟩ : Shape).Reduces [0] ⟨3, ![a, b, c]⟩)
    (i0 : Fin a) (i1 : Fin b) (i2 : Fin c) (k : Fin n) : h.lift (ix3 i0 i1 i2) k = ix4 k i0 i1 i2 := by
  funext x
  apply Fin.ext
  match x with
  | ⟨0, _⟩ => rfl
  | ⟨1, _⟩ => rfl
  | ⟨2, _⟩ => rfl
  | ⟨3, _⟩ => rfl

variable {n a b c : ℕ}

/-- The host's maximum over the first of four axes, of scores known along it. -/
theorem reduceMax_first {u : Shape} (x : (⟨4, ![n, a, b, c]⟩ : Shape).Idx → EReal) (init : u.Idx → EReal)
    (h' : (⟨4, ![n, a, b, c]⟩ : Shape).ReducesTo [0] ⟨3, ![a, b, c]⟩)
    (h : (⟨4, ![n, a, b, c]⟩ : Shape).Reduces [0] ⟨3, ![a, b, c]⟩) (hu : 0 < u.numel)
    (i0 : Fin a) (i1 : Fin b) (i2 : Fin c) (s : Fin n → EReal) (hs : ∀ k, x (ix4 k i0 i1 i2) = s k) :
    Host.reduce (FloatOps.maximumf (F := Ideal) (φ := .f32)) x init h' hu (ix3 i0 i1 i2)
      = (Finset.univ : Finset (Fin n)).fold max (init (Shape.Idx.first hu)) s := by
  rw [Host.reduce_eq_fold, Shape.ReducesTo.drop_eq_drop h' h]
  exact (h.fold_filter_drop_single _ _ x _).trans
    (Finset.fold_congr fun k _ => (congrArg x (lift_first h i0 i1 i2 k)).trans (hs k))

/-- The host's sum over the first of four axes, of terms known along it. -/
theorem reduceAdd_first {u : Shape} (x : (⟨4, ![n, a, b, c]⟩ : Shape).Idx → EReal) (init : u.Idx → EReal)
    (h' : (⟨4, ![n, a, b, c]⟩ : Shape).ReducesTo [0] ⟨3, ![a, b, c]⟩)
    (h : (⟨4, ![n, a, b, c]⟩ : Shape).Reduces [0] ⟨3, ![a, b, c]⟩) (hu : 0 < u.numel)
    (i0 : Fin a) (i1 : Fin b) (i2 : Fin c) (s : Fin n → EReal) (hs : ∀ k, x (ix4 k i0 i1 i2) = s k)
    (h0 : init (Shape.Idx.first hu) = 0) :
    Host.reduceAdd (F := Ideal) (φ := .f32) x init h' hu (ix3 i0 i1 i2) = ∑ k, s k := by
  simp only [Host.reduceAdd, Ideal.hostReduceAdd_def]
  rw [Ideal.hostReduceAdd_single h' h, h0, zero_add]
  exact Finset.sum_congr rfl fun k _ => (congrArg x (lift_first h i0 i1 i2 k)).trans (hs k)

/-- The largest of three scores, from minus infinity on. -/
theorem fold_three (s : Fin 3 → EReal) : (Finset.univ : Finset (Fin 3)).fold max ⊥ s = max (max (s 0) (s 1)) (s 2) := by
  rw [show (Finset.univ : Finset (Fin 3)) = {0, 1, 2} from rfl, Finset.fold_insert (by decide), Finset.fold_insert (by decide),
    Finset.fold_singleton, max_bot_right, max_assoc]

theorem neg_inf : Ideal.ofBits .f32 0xFF800000#32 = ⊥ := by
  simp [Ideal.ofBits, Ideal.ieee, -EReal.coe_mul]

theorem one_f32 : Ideal.ofBits .f32 0x3F800000#32 = 1 := by
  simp [Ideal.ofBits, Ideal.ieee, -EReal.coe_mul]; norm_num

variable (o0 o1 o2 l0 l1 l2 : S16384x256.Idx → EReal) (r : Fin 16384)

/-- Lane `d` of head `h`, as a column. -/
def col (h : Fin 4) (d : Fin 64) : Fin 256 := ⟨h.val * 64 + d.val, by omega⟩

/-- An index given by its coordinates. -/
theorem at2 {a b : ℕ} (i : (⟨2, ![a, b]⟩ : Shape).Idx) (x : Fin a) (y : Fin b) (hx : (i 0).val = x.val)
    (hy : (i 1).val = y.val) : i = ix2 x y :=
  (eq_ix2 i).trans (congrArg₂ ix2 (Fin.ext hx) (Fin.ext hy))

theorem at3 {a b c : ℕ} (i : (⟨3, ![a, b, c]⟩ : Shape).Idx) (x : Fin a) (y : Fin b) (z : Fin c) (hx : (i 0).val = x.val)
    (hy : (i 1).val = y.val) (hz : (i 2).val = z.val) : i = ix3 x y z := by
  rw [eq_ix3 i]
  have e0 : i 0 = x := Fin.ext hx
  have e1 : i 1 = y := Fin.ext hy
  have e2 : i 2 = z := Fin.ext hz
  rw [e0, e1, e2]

theorem at4 {a b c d : ℕ} (i : (⟨4, ![a, b, c, d]⟩ : Shape).Idx) (x : Fin a) (y : Fin b) (z : Fin c) (w : Fin d)
    (hx : (i 0).val = x.val) (hy : (i 1).val = y.val) (hz : (i 2).val = z.val) (hw : (i 3).val = w.val) : i = ix4 x y z w := by
  rw [eq_ix4 i]
  have e0 : i 0 = x := Fin.ext hx
  have e1 : i 1 = y := Fin.ext hy
  have e2 : i 2 = z := Fin.ext hz
  have e3 : i 3 = w := Fin.ext hw
  rw [e0, e1, e2, e3]

/-- An array split into heads, read back. -/
theorem heads (x : S16384x256.Idx → EReal) (h : Fin 4) (d : Fin 64) :
    val_main_v0 (F := Ideal) x (ix3 r h d) = x (ix2 r (col h d)) := by
  have hr := r.isLt
  have hh := h.isLt
  have hd := d.isLt
  rw [val_main_v0_apply, at2 (idx_main_v0 (ix3 r h d)) r (col h d)]
  · show ((r.val * 4 + h.val) * 64 + d.val) / 256 = r.val; omega
  · show ((r.val * 4 + h.val) * 64 + d.val) % 256 = h.val * 64 + d.val; omega

/-- Three arrays stacked, read back. -/
theorem stack (x0 x1 x2 : S16384x256.Idx → EReal) (h : Fin 4) (d : Fin 64) (s : Fin 3) :
    val_main_v6 (F := Ideal) x0 x1 x2 (ix4 s r h d)
      = ![x0 (ix2 r (col h d)), x1 (ix2 r (col h d)), x2 (ix2 r (col h d))] s := by
  rw [← heads r x0 h d, ← heads r x1 h d, ← heads r x2 h d]
  fin_cases s
  · pointwise [val_main_v6, val_main_v3, val_main_v4, val_main_v5]
  · pointwise [val_main_v6, val_main_v3, val_main_v4, val_main_v5]
    rfl
  · pointwise [val_main_v6, val_main_v3, val_main_v4, val_main_v5]
    rfl

/-- The largest of the three log-sum-exps. -/
theorem largest (h : Fin 4) (d : Fin 64) : val_main_v7 (F := Ideal) l0 l1 l2 (ix3 r h d)
    = max (max (l0 (ix2 r (col h d))) (l1 (ix2 r (col h d)))) (l2 (ix2 r (col h d))) := by
  have hs := stack r l0 l1 l2 h d
  unfold val_main_v7
  generalize val_main_v6 (F := Ideal) l0 l1 l2 = y at hs
  refine (reduceMax_first y _ _ (by decide) _ r h d _ hs).trans ?_
  rw [val_main_cst_apply]
  exact (congrArg (fun b => Finset.fold max b _ _) neg_inf).trans (fold_three _)

/-- The unnormalized weights. -/
theorem weight (h : Fin 4) (d : Fin 64) (s : Fin 3) : val_main_v13 (F := Ideal) l0 l1 l2 (ix4 s r h d)
    = wt (l0 (ix2 r (col h d))) (l1 (ix2 r (col h d))) (l2 (ix2 r (col h d)))
        (![l0 (ix2 r (col h d)), l1 (ix2 r (col h d)), l2 (ix2 r (col h d))] s) := by
  rw [val_main_v13_apply, val_main_v12_apply, val_main_v11_apply, val_main_v10_apply, val_main_v9_apply, val_main_v8_apply,
    at3 (idx_main_v10 (idx_main_v11 (ix4 s r h d))) r h d rfl rfl rfl, stack, largest, val_main_cst_0_apply]
  unfold wt
  refine congrArg (fun b => Ideal.exp (_ - b)) ?_
  exact (congrArg (fun b => max b _) neg_inf).trans (max_bot_left _)

/-- The sum of the weights. -/
theorem total (h : Fin 4) (d : Fin 64) : val_main_v14 (F := Ideal) l0 l1 l2 (ix3 r h d)
    = wt (l0 (ix2 r (col h d))) (l1 (ix2 r (col h d))) (l2 (ix2 r (col h d))) (l0 (ix2 r (col h d)))
      + wt (l0 (ix2 r (col h d))) (l1 (ix2 r (col h d))) (l2 (ix2 r (col h d))) (l1 (ix2 r (col h d)))
      + wt (l0 (ix2 r (col h d))) (l1 (ix2 r (col h d))) (l2 (ix2 r (col h d))) (l2 (ix2 r (col h d))) := by
  have e : ∀ s : Fin 3, idx_main_v14 (ix3 r h d) s = ix4 s r h d := fun s => at4 _ s r h d rfl rfl rfl rfl
  rw [val_main_v14_apply]
  simp only [e, weight]
  rw [Fin.sum_univ_three]
  exact (congrArg (· + _) Ideal.ofBits_zero_f32).trans (zero_add _)

/-- The weighted values. -/
theorem merged (h : Fin 4) (d : Fin 64) (h0 : Finite (l0 (ix2 r (col h d)))) (h1 : Finite (l1 (ix2 r (col h d))))
    (h2 : Finite (l2 (ix2 r (col h d)))) : val_main_v26 (F := Ideal) o0 o1 o2 l0 l1 l2 (ix3 r h d)
    = mix (l0 (ix2 r (col h d))) (l1 (ix2 r (col h d))) (l2 (ix2 r (col h d)))
        (o0 (ix2 r (col h d))) (o1 (ix2 r (col h d))) (o2 (ix2 r (col h d))) := by
  have e : ∀ s : Fin 3, idx_main_v26 (ix3 r h d) s = ix4 s r h d := fun s => at4 _ s r h d rfl rfl rfl rfl
  have e' : ∀ s : Fin 3, idx_main_v15 (idx_main_v16 (ix4 s r h d)) = ix3 r h d := fun s => at3 _ r h d rfl rfl rfl
  have e24 : val_main_v24 (F := Ideal) o0 o1 o2 = val_main_v6 (F := Ideal) o0 o1 o2 := rfl
  rw [val_main_v26_apply]
  simp only [e, val_main_v25_apply, val_main_v17_apply, val_main_v16_apply, val_main_v15_apply, e', weight, total, e24, stack]
  rw [Fin.sum_univ_three, mix_eq _ _ _ h0 h1 h2]
  exact (congrArg (· + _) Ideal.ofBits_zero_f32).trans (zero_add _)

/-- The merged values as a row of 256 columns. -/
theorem merged_row (k : Fin 256) (h0 : Finite (l0 (ix2 r k))) (h1 : Finite (l1 (ix2 r k))) (h2 : Finite (l2 (ix2 r k))) :
    val_main_v51 (F := Ideal) o0 o1 o2 l0 l1 l2 (ix2 r k)
      = mix (l0 (ix2 r k)) (l1 (ix2 r k)) (l2 (ix2 r k)) (o0 (ix2 r k)) (o1 (ix2 r k)) (o2 (ix2 r k)) := by
  have hk : k = col ⟨k.val / 64, by omega⟩ ⟨k.val % 64, by omega⟩ :=
    Fin.ext (by show k.val = k.val / 64 * 64 + k.val % 64; omega)
  have hr := r.isLt
  rw [val_main_v51_apply, at3 (idx_main_v51 (ix2 r k)) r ⟨k.val / 64, by omega⟩ ⟨k.val % 64, by omega⟩,
    merged _ _ _ _ _ _ _ _ _ (hk ▸ h0) (hk ▸ h1) (hk ▸ h2), ← hk]
  · show (r.val * 256 + k.val) / 256 = r.val; omega
  · show (r.val * 256 + k.val) / 64 % 4 = k.val / 64; omega
  · show (r.val * 256 + k.val) % 64 = k.val % 64; omega

variable (x : S16384x512.Idx → EReal) (z : S16384x4608.Idx → EReal) (g : S512.Idx → EReal)

/-- The row split into heads, read back. -/
theorem rows (h : Fin 4) (d : Fin 128) :
    val_main_v27 (F := Ideal) x (ix3 r h d) = x (ix2 r ⟨h.val * 128 + d.val, by omega⟩) := by
  have hr := r.isLt
  have hh := h.isLt
  have hd := d.isLt
  rw [val_main_v27_apply, at2 (idx_main_v27 (ix3 r h d)) r ⟨h.val * 128 + d.val, by omega⟩]
  · show ((r.val * 4 + h.val) * 128 + d.val) / 512 = r.val; omega
  · show ((r.val * 4 + h.val) * 128 + d.val) % 512 = h.val * 128 + d.val; omega

/-- The factor a head is normalized by. -/
theorem inv (h : Fin 4) (d : Fin 128) : val_main_v37 (F := Ideal) x (ix3 r h d)
    = Ideal.rsqrt (Ideal.div (∑ i : Fin 128, x (ix2 r ⟨h.val * 128 + i.val, by omega⟩) * x (ix2 r ⟨h.val * 128 + i.val, by omega⟩))
        (Ideal.ofBits .f32 0x43000000#32) + Ideal.ofBits .f32 0x358637BD#32) := by
  have e : ∀ i : Fin 128, idx_main_v30 (idx_main_v31 (idx_main_v37 (ix3 r h d))) i = ix3 r h i := fun i => at3 _ r h i rfl rfl rfl
  rw [val_main_v37_apply, val_main_v36_apply, val_main_v35_apply, val_main_v33_apply, val_main_v31_apply, val_main_v30_apply,
    val_main_v32_apply, val_main_v34_apply]
  simp only [e, val_main_v29_apply, rows]
  refine congrArg (fun b => Ideal.rsqrt (Ideal.div b _ + _)) ?_
  exact (congrArg (· + _) Ideal.ofBits_zero_f32).trans (zero_add _)

/-- The normalized and gated row. -/
theorem gate_apply (k : Fin 512) : val_main_v50 (F := Ideal) x z g (ix2 r k)
    = gated (fun k => x (ix2 r k)) (fun k => g (ix1 k)) (fun k => z (ix2 r ⟨1536 + k.val, by omega⟩)) k := by
  have hr := r.isLt
  have hk : (⟨k.val / 128 * 128 + k.val % 128, by omega⟩ : Fin 512) = k := Fin.ext (by dsimp only; omega)
  have e43 : idx_main_v43 (ix2 r k) = ix3 r ⟨k.val / 128, by omega⟩ ⟨k.val % 128, by omega⟩ := at3 _ _ _ _
    (by show (r.val * 512 + k.val) / 512 = r.val; omega) (by show (r.val * 512 + k.val) / 128 % 4 = k.val / 128; omega)
    (by show (r.val * 512 + k.val) % 128 = k.val % 128; omega)
  have e39 : idx_main_v39 (idx_main_v40 (idx_main_v41 (ix3 r ⟨k.val / 128, by omega⟩ ⟨k.val % 128, by omega⟩))) = ix1 k := by
    refine (eq_ix1 _).trans (congrArg ix1 (Fin.ext ?_))
    show k.val / 128 * 128 + k.val % 128 = k.val; omega
  have e28 : idx_main_v28 (ix2 r k) = ix2 r ⟨1536 + k.val, by omega⟩ := at2 _ _ _ rfl rfl
  rw [val_main_v50_apply, val_main_v43_apply, val_main_v42_apply, val_main_v38_apply, e43, rows, inv, val_main_v41_apply,
    val_main_v40_apply, val_main_v39_apply, e39, hk, val_main_v49_apply, val_main_v48_apply, val_main_v47_apply, val_main_v46_apply,
    val_main_v45_apply, val_main_v44_apply, val_main_v28_apply, e28]
  unfold gated Ideal.logistic
  rw [← one_f32]
  rfl

/-- The plain program's result, entry by entry, where the log-sum-exps are finite. -/
theorem ref_apply (w : S768x1024.Idx → EReal) (y : S16384x1024.Idx → EReal) (q : Fin 1024)
    (hf : ∀ i, Finite (l0 i) ∧ Finite (l1 i) ∧ Finite (l2 i)) :
    val_main_v54 (F := Ideal) o0 o1 o2 l0 l1 l2 x z g w y (ix2 r q)
      = entry (fun k => o0 (ix2 r k)) (fun k => o1 (ix2 r k)) (fun k => o2 (ix2 r k)) (fun k => l0 (ix2 r k))
          (fun k => l1 (ix2 r k)) (fun k => l2 (ix2 r k)) (fun k => x (ix2 r k)) (fun k => z (ix2 r ⟨1536 + k.val, by omega⟩))
          (fun k => g (ix1 k)) (fun k => w (ix2 k q)) (y (ix2 r q)) := by
  have el : ∀ k : Fin 768, lidx_main_v53 (ix2 r q) k = ix2 r k := fun k => at2 _ _ _ rfl rfl
  have er : ∀ k : Fin 768, ridx_main_v53 (ix2 r q) k = ix2 k q := fun k => at2 _ _ _ rfl rfl
  have hlo : ∀ k : Fin 256, val_main_v52 (F := Ideal) o0 o1 o2 l0 l1 l2 x z g (ix2 r (Fin.castAdd 512 k))
      = mix (l0 (ix2 r k)) (l1 (ix2 r k)) (l2 (ix2 r k)) (o0 (ix2 r k)) (o1 (ix2 r k)) (o2 (ix2 r k)) := by
    intro k
    have hk := k.isLt
    rw [← merged_row o0 o1 o2 l0 l1 l2 r k (hf _).1 (hf _).2.1 (hf _).2.2]
    unfold val_main_v52
    generalize val_main_v51 (F := Ideal) o0 o1 o2 l0 l1 l2 = a
    generalize val_main_v50 (F := Ideal) x z g = b
    pointwise
    simp [hk]
  have hhi : ∀ k : Fin 512, val_main_v52 (F := Ideal) o0 o1 o2 l0 l1 l2 x z g (ix2 r (Fin.natAdd 256 k))
      = gated (fun k => x (ix2 r k)) (fun k => g (ix1 k)) (fun k => z (ix2 r ⟨1536 + k.val, by omega⟩)) k := by
    intro k
    rw [← gate_apply r x z g k]
    unfold val_main_v52
    generalize val_main_v51 (F := Ideal) o0 o1 o2 l0 l1 l2 = a
    generalize val_main_v50 (F := Ideal) x z g = b
    pointwise
    simp
  rw [val_main_v54_apply, val_main_v53_apply]
  simp only [el, er]
  unfold entry
  refine congrArg (y (ix2 r q) + ·) ?_
  refine (Fin.sum_univ_add (a := 256) (b := 512) fun k : Fin 768 =>
    val_main_v52 (F := Ideal) o0 o1 o2 l0 l1 l2 x z g (ix2 r k) * w (ix2 k q)).trans ?_
  simp only [hlo, hhi]

end Cert.MergeRefIdeal.RefValue

end
-- ==== Proof.Merge.Claims.lean ====
/-
  The merge of the layer's two branches: the kernel and the plain program leave the same array.
-/
module

public import proofs.«01_k».proof.Defs
public import proofs.«01_k».proof.Proof.Merge.Kernel
public import proofs.«01_k».proof.Proof.Merge.Ref
public import Idealize.ShloMosaic.Adequacy
public import Idealize.ShloMosaic.Init

@[expose] public section

noncomputable section

namespace Cert.Merge

open Idealize.ShloMosaic Idealize.ShloMosaic.TcCoe Idealize.SL.Sem

/-- The plain program runs, leaves its arguments as they were and every semaphore at zero. -/
theorem frame : Cert.quiescent_MergeRefIdeal (hMergeRefIdeal := Cert.MergeRefIdeal.Gen.facts) := fun m ρ _ =>
  (θ_run _ _ _).mono (fun r h => ⟨fun c => (h c).2, sem_eq_zero_of_no_sems (by decide) r.2⟩)
    (Cert.MergeRefIdeal.Value.run (F := Ideal) m ρ)

/-- The kernel's result is the plain program's, the log-sum-exps being finite. -/
theorem values : Cert.algebraic_MergeIdeal_MergeRefIdeal_pre_finite_lse (hMergeIdeal := Cert.MergeIdeal.Gen.facts)
    (hMergeRefIdeal := Cert.MergeRefIdeal.Gen.facts) (hPre_finite_lse := preFacts) := by
  intro m ρ m' ρ' hpre hagree
  refine ⟨fun c => Cert.MergeIdeal.RefValue.G m c, Cert.MergeIdeal.RefValue.run m ρ,
    (θ_run _ _ _).mono (fun r h c => ⟨?_, (h c).2⟩) (Cert.MergeRefIdeal.Value.run (F := Ideal) m' ρ')⟩
  refine (h c).1.trans ((Cert.MergeRefIdeal.Read.val_main_v54_eq (F := Ideal) _ _).trans ?_)
  obtain ⟨h0, h1, h2, h3, h4, h5, h6, h7, h8, h9, h10⟩ := hagree c
  rw [h0, h1, h2, h3, h4, h5, h6, h7, h8, h9, h10]
  refine funext fun i => ?_
  obtain ⟨r, q, rfl⟩ : ∃ (r : Fin 16384) (q : Fin 1024), i = ix2 r q := ⟨_, _, eq_ix2 i⟩
  exact Cert.MergeRefIdeal.RefValue.ref_apply _ _ _ _ _ _ r _ _ _ _ _ q fun i =>
    finite_of_pre _ _ _ _ _ _ _ _ _ _ _ (fun a => a.elim0) (congrFun (hpre c) _) i

end Cert.Merge

end
-- ==== Proof.lean ====
/-
  The certificate: every program's run, and for each call the kernel's results against the plain program's.
-/
module

public import proofs.«01_k».proof.Defs
public import proofs.«01_k».proof.Proof.Gen.ProjA.Frame
public import proofs.«01_k».proof.Proof.Gen.ProjC.Frame
public import proofs.«01_k».proof.Proof.Gen.Ffn.Frame
public import proofs.«01_k».proof.Proof.Gen.FfnFinal.Frame
public import proofs.«01_k».proof.Proof.Gen.FfnFinalS.Frame
public import proofs.«01_k».proof.Proof.Gen.Out.Frame
public import proofs.«01_k».proof.Proof.Gen.Merge.Frame
public import proofs.«01_k».proof.Proof.Proj.Claims
public import proofs.«01_k».proof.Proof.Ffn.Claims
public import proofs.«01_k».proof.Proof.Out.Claims
public import proofs.«01_k».proof.Proof.Merge.Claims
public import Idealize.ShloMosaic.Adequacy
public import Idealize.ShloMosaic.Init

@[expose] public section

noncomputable section

namespace Cert.Proof

open Idealize.ShloMosaic Idealize.SL.Sem

/-- Everything claimed of the programs. -/
theorem claim : Cert.Claim :=
  ⟨Cert.ProjA.Gen.facts, Cert.ProjAIdeal.Gen.facts, Cert.ProjARefIdeal.Gen.facts, Cert.ProjC.Gen.facts, Cert.ProjCIdeal.Gen.facts, Cert.ProjCRefIdeal.Gen.facts, Cert.Ffn.Gen.facts, Cert.FfnIdeal.Gen.facts, Cert.FfnRefIdeal.Gen.facts, Cert.FfnFinal.Gen.facts, Cert.FfnFinalIdeal.Gen.facts, Cert.FfnFinalRefIdeal.Gen.facts, Cert.FfnFinalS.Gen.facts, Cert.FfnFinalSIdeal.Gen.facts, Cert.FfnFinalSRefIdeal.Gen.facts, Cert.Out.Gen.facts, Cert.OutIdeal.Gen.facts, Cert.OutRefIdeal.Gen.facts, Cert.Merge.Gen.facts, Cert.MergeIdeal.Gen.facts, Cert.MergeRefIdeal.Gen.facts,
    Cert.Merge.preFacts,
    fun m ρ _ => Cert.ProjA.Gen.frame m ρ, fun m ρ _ => Cert.ProjAIdeal.Gen.frame m ρ, Cert.Proj.frameA,
    fun m ρ _ => Cert.ProjC.Gen.frame m ρ, fun m ρ _ => Cert.ProjCIdeal.Gen.frame m ρ, Cert.Proj.frameC,
    fun m ρ _ => Cert.Ffn.Gen.frame m ρ, fun m ρ _ => Cert.FfnIdeal.Gen.frame m ρ, Cert.Ffn.Spec.frame,
    fun m ρ _ => Cert.FfnFinal.Gen.frame m ρ, fun m ρ _ => Cert.FfnFinalIdeal.Gen.frame m ρ, Cert.Ffn.Spec.frameFinal,
    fun m ρ _ => Cert.FfnFinalS.Gen.frame m ρ, fun m ρ _ => Cert.FfnFinalSIdeal.Gen.frame m ρ, Cert.Ffn.Spec.frameFinalS,
    fun m ρ _ => Cert.Out.Gen.frame m ρ, fun m ρ _ => Cert.OutIdeal.Gen.frame m ρ, Cert.Out.frame,
    fun m ρ _ => Cert.Merge.Gen.frame m ρ, fun m ρ _ => Cert.MergeIdeal.Gen.frame m ρ,
    fun m ρ _ => Cert.MergeIdeal.Gen.frame m ρ, Cert.Merge.frame, fun m ρ _ => Cert.Merge.frame m ρ trivial,
    trivial, Cert.Proj.valuesA, trivial, Cert.Proj.valuesC, trivial, Cert.Ffn.Spec.values, trivial, Cert.Ffn.Spec.valuesFinal, trivial, Cert.Ffn.Spec.valuesFinalS, trivial, Cert.Out.values, trivial, Cert.Merge.values⟩

end Cert.Proof

end
